-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_ffb_finite [hPre_ffb_finite : Cert.Pre_ffb_finite.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_ffb_finite.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))).1 = (fun _ => 1#1)
    ∧ (Cert.Pre_ffb_finite.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))).2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_ffb_finite [hPre_ffb_finite : Cert.Pre_ffb_finite.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_ffb_finite.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))).1 = (fun _ => 1#1)
    ∧ (Cert.Pre_ffb_finite.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))).2 = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_fff_finite [hPre_fff_finite : Cert.Pre_fff_finite.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_fff_finite.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6))).1 = (fun _ => 1#1)
    ∧ (Cert.Pre_fff_finite.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6))).2.1 = (fun _ => 1#1)
    ∧ (Cert.Pre_fff_finite.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6))).2.2.1 = (fun _ => 1#1)
    ∧ (Cert.Pre_fff_finite.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6))).2.2.2.1 = (fun _ => 1#1)
    ∧ (Cert.Pre_fff_finite.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6))).2.2.2.2 = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_fff_finite [hPre_fff_finite : Cert.Pre_fff_finite.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_fff_finite.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6))).1 = (fun _ => 1#1)
    ∧ (Cert.Pre_fff_finite.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6))).2.1 = (fun _ => 1#1)
    ∧ (Cert.Pre_fff_finite.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6))).2.2.1 = (fun _ => 1#1)
    ∧ (Cert.Pre_fff_finite.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6))).2.2.2.1 = (fun _ => 1#1)
    ∧ (Cert.Pre_fff_finite.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Kernel7Ideal_pre_ffb_finite [hKernel7Ideal : Cert.Kernel7Ideal.Facts] [hPre_ffb_finite : Cert.Pre_ffb_finite.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_ffb_finite m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Reference7Ideal_pre_ffb_finite [hReference7Ideal : Cert.Reference7Ideal.Facts] [hPre_ffb_finite : Cert.Pre_ffb_finite.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_ffb_finite m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Kernel8Ideal_pre_fff_finite [hKernel8Ideal : Cert.Kernel8Ideal.Facts] [hPre_fff_finite : Cert.Pre_fff_finite.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_fff_finite m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0)

def quiescent_Reference8Ideal_pre_fff_finite [hReference8Ideal : Cert.Reference8Ideal.Facts] [hPre_fff_finite : Cert.Pre_fff_finite.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_fff_finite m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v20_0)) (v1 : (c : Dev Cert.KernelIdeal.nD) → Buf (Elt Ideal) ((c.tc : Thread Cert.KernelIdeal.nD Cert.KernelIdeal.τ).loc Cert.KernelIdeal.main_v20_1)) (v2 : (c : Dev Cert.KernelIdeal.nD) → Buf (Elt Ideal) ((c.tc : Thread Cert.KernelIdeal.nD Cert.KernelIdeal.τ).loc Cert.KernelIdeal.main_v20_2)) (v3 : (c : Dev Cert.KernelIdeal.nD) → Buf (Elt Ideal) ((c.tc : Thread Cert.KernelIdeal.nD Cert.KernelIdeal.τ).loc Cert.KernelIdeal.main_v20_3)) (v4 : (c : Dev Cert.KernelIdeal.nD) → Buf (Elt Ideal) ((c.tc : Thread Cert.KernelIdeal.nD Cert.KernelIdeal.τ).loc Cert.KernelIdeal.main_v20_4)) (v5 : (c : Dev Cert.KernelIdeal.nD) → Buf (Elt Ideal) ((c.tc : Thread Cert.KernelIdeal.nD Cert.KernelIdeal.τ).loc Cert.KernelIdeal.main_v20_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20_0) = v0 c
          ∧ r.2.mem ((c.tc : Thread Cert.KernelIdeal.nD Cert.KernelIdeal.τ).loc Cert.KernelIdeal.main_v20_1) = v1 c
          ∧ r.2.mem ((c.tc : Thread Cert.KernelIdeal.nD Cert.KernelIdeal.τ).loc Cert.KernelIdeal.main_v20_2) = v2 c
          ∧ r.2.mem ((c.tc : Thread Cert.KernelIdeal.nD Cert.KernelIdeal.τ).loc Cert.KernelIdeal.main_v20_3) = v3 c
          ∧ r.2.mem ((c.tc : Thread Cert.KernelIdeal.nD Cert.KernelIdeal.τ).loc Cert.KernelIdeal.main_v20_4) = v4 c
          ∧ r.2.mem ((c.tc : Thread Cert.KernelIdeal.nD Cert.KernelIdeal.τ).loc Cert.KernelIdeal.main_v20_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_v37) = v2 c
          ∧ r.2.mem ((c.tc : Thread Cert.ReferenceIdeal.nD Cert.ReferenceIdeal.τ).loc Cert.ReferenceIdeal.main_v38) = v3 c
          ∧ r.2.mem ((c.tc : Thread Cert.ReferenceIdeal.nD Cert.ReferenceIdeal.τ).loc Cert.ReferenceIdeal.main_v19) = v4 c
          ∧ r.2.mem ((c.tc : Thread Cert.ReferenceIdeal.nD Cert.ReferenceIdeal.τ).loc Cert.ReferenceIdeal.main_v39) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v4_0)) (v1 : (c : Dev Cert.Kernel4Ideal.nD) → Buf (Elt Ideal) ((c.tc : Thread Cert.Kernel4Ideal.nD Cert.Kernel4Ideal.τ).loc Cert.Kernel4Ideal.main_v4_1)) (v2 : (c : Dev Cert.Kernel4Ideal.nD) → Buf (Elt Ideal) ((c.tc : Thread Cert.Kernel4Ideal.nD Cert.Kernel4Ideal.τ).loc Cert.Kernel4Ideal.main_v4_2)) (v3 : (c : Dev Cert.Kernel4Ideal.nD) → Buf (Elt Ideal) ((c.tc : Thread Cert.Kernel4Ideal.nD Cert.Kernel4Ideal.τ).loc Cert.Kernel4Ideal.main_v4_3)) (v4 : (c : Dev Cert.Kernel4Ideal.nD) → Buf (Elt Ideal) ((c.tc : Thread Cert.Kernel4Ideal.nD Cert.Kernel4Ideal.τ).loc Cert.Kernel4Ideal.main_v4_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4_0) = v0 c
          ∧ r.2.mem ((c.tc : Thread Cert.Kernel4Ideal.nD Cert.Kernel4Ideal.τ).loc Cert.Kernel4Ideal.main_v4_1) = v1 c
          ∧ r.2.mem ((c.tc : Thread Cert.Kernel4Ideal.nD Cert.Kernel4Ideal.τ).loc Cert.Kernel4Ideal.main_v4_2) = v2 c
          ∧ r.2.mem ((c.tc : Thread Cert.Kernel4Ideal.nD Cert.Kernel4Ideal.τ).loc Cert.Kernel4Ideal.main_v4_3) = v3 c
          ∧ r.2.mem ((c.tc : Thread Cert.Kernel4Ideal.nD Cert.Kernel4Ideal.τ).loc Cert.Kernel4Ideal.main_v4_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v24) = v0 c
          ∧ r.2.mem ((c.tc : Thread Cert.Reference4Ideal.nD Cert.Reference4Ideal.τ).loc Cert.Reference4Ideal.main_v25) = v1 c
          ∧ r.2.mem ((c.tc : Thread Cert.Reference4Ideal.nD Cert.Reference4Ideal.τ).loc Cert.Reference4Ideal.main_v26) = v2 c
          ∧ r.2.mem ((c.tc : Thread Cert.Reference4Ideal.nD Cert.Reference4Ideal.τ).loc Cert.Reference4Ideal.main_v27) = v3 c
          ∧ r.2.mem ((c.tc : Thread Cert.Reference4Ideal.nD Cert.Reference4Ideal.τ).loc Cert.Reference4Ideal.main_v23) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v3_0)) (v1 : (c : Dev Cert.Kernel5Ideal.nD) → Buf (Elt Ideal) ((c.tc : Thread Cert.Kernel5Ideal.nD Cert.Kernel5Ideal.τ).loc Cert.Kernel5Ideal.main_v3_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3_0) = v0 c
          ∧ r.2.mem ((c.tc : Thread Cert.Kernel5Ideal.nD Cert.Kernel5Ideal.τ).loc Cert.Kernel5Ideal.main_v3_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_v7) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v11_0)) (v1 : (c : Dev Cert.Kernel6Ideal.nD) → Buf (Elt Ideal) ((c.tc : Thread Cert.Kernel6Ideal.nD Cert.Kernel6Ideal.τ).loc Cert.Kernel6Ideal.main_v11_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v11_0) = v0 c
          ∧ r.2.mem ((c.tc : Thread Cert.Kernel6Ideal.nD Cert.Kernel6Ideal.τ).loc Cert.Kernel6Ideal.main_v11_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v38) = v0 c
          ∧ r.2.mem ((c.tc : Thread Cert.Reference6Ideal.nD Cert.Reference6Ideal.τ).loc Cert.Reference6Ideal.main_v39) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal_pre_ffb_finite [hKernel7Ideal : Cert.Kernel7Ideal.Facts] [hReference7Ideal : Cert.Reference7Ideal.Facts] [hPre_ffb_finite : Cert.Pre_ffb_finite.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_ffb_finite m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v29_0)) (v1 : (c : Dev Cert.Kernel7Ideal.nD) → Buf (Elt Ideal) ((c.tc : Thread Cert.Kernel7Ideal.nD Cert.Kernel7Ideal.τ).loc Cert.Kernel7Ideal.main_v29_1)) (v2 : (c : Dev Cert.Kernel7Ideal.nD) → Buf (Elt Ideal) ((c.tc : Thread Cert.Kernel7Ideal.nD Cert.Kernel7Ideal.τ).loc Cert.Kernel7Ideal.main_v29_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v29_0) = v0 c
          ∧ r.2.mem ((c.tc : Thread Cert.Kernel7Ideal.nD Cert.Kernel7Ideal.τ).loc Cert.Kernel7Ideal.main_v29_1) = v1 c
          ∧ r.2.mem ((c.tc : Thread Cert.Kernel7Ideal.nD Cert.Kernel7Ideal.τ).loc Cert.Kernel7Ideal.main_v29_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v38) = v0 c
          ∧ r.2.mem ((c.tc : Thread Cert.Reference7Ideal.nD Cert.Reference7Ideal.τ).loc Cert.Reference7Ideal.main_v39) = v1 c
          ∧ r.2.mem ((c.tc : Thread Cert.Reference7Ideal.nD Cert.Reference7Ideal.τ).loc Cert.Reference7Ideal.main_v40) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal_pre_fff_finite [hKernel8Ideal : Cert.Kernel8Ideal.Facts] [hReference8Ideal : Cert.Reference8Ideal.Facts] [hPre_fff_finite : Cert.Pre_fff_finite.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_fff_finite m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)) →
    ∃ (v0 : (c : Dev Cert.Kernel8Ideal.nD) → Buf (Elt Ideal) ((c.tc : Thread Cert.Kernel8Ideal.nD Cert.Kernel8Ideal.τ).loc Cert.Kernel8Ideal.main_v27_0)) (v1 : (c : Dev Cert.Kernel8Ideal.nD) → Buf (Elt Ideal) ((c.tc : Thread Cert.Kernel8Ideal.nD Cert.Kernel8Ideal.τ).loc Cert.Kernel8Ideal.main_v27_1)) (v2 : (c : Dev Cert.Kernel8Ideal.nD) → Buf (Elt Ideal) ((c.tc : Thread Cert.Kernel8Ideal.nD Cert.Kernel8Ideal.τ).loc Cert.Kernel8Ideal.main_v27_2)) (v3 : (c : Dev Cert.Kernel8Ideal.nD) → Buf (Elt Ideal) ((c.tc : Thread Cert.Kernel8Ideal.nD Cert.Kernel8Ideal.τ).loc Cert.Kernel8Ideal.main_v27_3)) (v4 : (c : Dev Cert.Kernel8Ideal.nD) → Buf (Elt Ideal) ((c.tc : Thread Cert.Kernel8Ideal.nD Cert.Kernel8Ideal.τ).loc Cert.Kernel8Ideal.main_v27_4)) (v5 : (c : Dev Cert.Kernel8Ideal.nD) → Buf (Elt Ideal) ((c.tc : Thread Cert.Kernel8Ideal.nD Cert.Kernel8Ideal.τ).loc Cert.Kernel8Ideal.main_v27_5)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v27_0) = v0 c
          ∧ r.2.mem ((c.tc : Thread Cert.Kernel8Ideal.nD Cert.Kernel8Ideal.τ).loc Cert.Kernel8Ideal.main_v27_1) = v1 c
          ∧ r.2.mem ((c.tc : Thread Cert.Kernel8Ideal.nD Cert.Kernel8Ideal.τ).loc Cert.Kernel8Ideal.main_v27_2) = v2 c
          ∧ r.2.mem ((c.tc : Thread Cert.Kernel8Ideal.nD Cert.Kernel8Ideal.τ).loc Cert.Kernel8Ideal.main_v27_3) = v3 c
          ∧ r.2.mem ((c.tc : Thread Cert.Kernel8Ideal.nD Cert.Kernel8Ideal.τ).loc Cert.Kernel8Ideal.main_v27_4) = v4 c
          ∧ r.2.mem ((c.tc : Thread Cert.Kernel8Ideal.nD Cert.Kernel8Ideal.τ).loc Cert.Kernel8Ideal.main_v27_5) = v5 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v62) = v0 c
          ∧ r.2.mem ((c.tc : Thread Cert.Reference8Ideal.nD Cert.Reference8Ideal.τ).loc Cert.Reference8Ideal.main_v65) = v1 c
          ∧ r.2.mem ((c.tc : Thread Cert.Reference8Ideal.nD Cert.Reference8Ideal.τ).loc Cert.Reference8Ideal.main_v68) = v2 c
          ∧ r.2.mem ((c.tc : Thread Cert.Reference8Ideal.nD Cert.Reference8Ideal.τ).loc Cert.Reference8Ideal.main_v58) = v3 c
          ∧ r.2.mem ((c.tc : Thread Cert.Reference8Ideal.nD Cert.Reference8Ideal.τ).loc Cert.Reference8Ideal.main_v72) = v4 c
          ∧ r.2.mem ((c.tc : Thread Cert.Reference8Ideal.nD Cert.Reference8Ideal.τ).loc Cert.Reference8Ideal.main_v73) = v5 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_ffb_finite : Cert.Pre_ffb_finite.Facts) (hPre_fff_finite : Cert.Pre_fff_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_ffb_finite (hKernel7Ideal := hKernel7Ideal) (hPre_ffb_finite := hPre_ffb_finite)
    ∧ quiescent_Reference7Ideal (hReference7Ideal := hReference7Ideal)
    ∧ quiescent_Reference7Ideal_pre_ffb_finite (hReference7Ideal := hReference7Ideal) (hPre_ffb_finite := hPre_ffb_finite)
    ∧ quiescent_Kernel8 (hKernel8 := hKernel8)
    ∧ quiescent_Kernel8Ideal (hKernel8Ideal := hKernel8Ideal)
    ∧ quiescent_Kernel8Ideal_pre_fff_finite (hKernel8Ideal := hKernel8Ideal) (hPre_fff_finite := hPre_fff_finite)
    ∧ quiescent_Reference8Ideal (hReference8Ideal := hReference8Ideal)
    ∧ quiescent_Reference8Ideal_pre_fff_finite (hReference8Ideal := hReference8Ideal) (hPre_fff_finite := hPre_fff_finite)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_ffb_finite (hKernel7Ideal := hKernel7Ideal) (hReference7Ideal := hReference7Ideal) (hPre_ffb_finite := hPre_ffb_finite)
    ∧ preserves_Kernel8_Kernel8Ideal
    ∧ algebraic_Kernel8Ideal_Reference8Ideal_pre_fff_finite (hKernel8Ideal := hKernel8Ideal) (hReference8Ideal := hReference8Ideal) (hPre_fff_finite := hPre_fff_finite)
-- ==== Pre_ffb_finite.lean ====
abbrev S4096x1024 : Shape := ⟨2, ![4096, 1024]⟩
abbrev S1024 : Shape := ⟨1, ![1024]⟩
abbrev S1024x5632 : Shape := ⟨2, ![1024, 5632]⟩
abbrev S4096x5632 : Shape := ⟨2, ![4096, 5632]⟩
abbrev S_ : Shape := ⟨0, ![]⟩

class Facts : Prop where
  bcast_S_S1024x5632 : S_.BroadcastsInDim S1024x5632 (![] : Fin 0 → Fin S1024x5632.rank)
  bcast_S_S4096x5632 : S_.BroadcastsInDim S4096x5632 (![] : Fin 0 → Fin S4096x5632.rank)

variable [Facts]

def fn {F : FTy → Type} [FloatOps F] (main_arg0 : FVec F S4096x1024 .f32) (main_arg1 : FVec F S1024 .f32) (main_arg2 : FVec F S1024x5632 .f32) (main_arg3 : FVec F S4096x5632 .f32) (main_arg4 : FVec F S4096x1024 .f32) : IVec S1024x5632 1 × IVec S4096x5632 1 :=
  let main_v0 : FVec F S1024x5632 .f32 := Host.absf main_arg2
  let main_cst : FVec F S_ .f32 := constant S_ .f32 0x7F800000#32
  let main_v1 : FVec F S1024x5632 .f32 := broadcastInDim S1024x5632 ![] bcast_S_S1024x5632 main_cst
  let main_v2 : IVec S1024x5632 1 := cmpf .olt main_v0 main_v1
  let main_v3 : FVec F S4096x5632 .f32 := Host.absf main_arg3
  let main_cst_0 : FVec F S_ .f32 := constant S_ .f32 0x7F800000#32
  let main_v4 : FVec F S4096x5632 .f32 := broadcastInDim S4096x5632 ![] bcast_S_S4096x5632 main_cst_0
  let main_v5 : IVec S4096x5632 1 := cmpf .olt main_v3 main_v4
  (main_v2, main_v5)
-- ==== Pre_fff_finite.lean ====
abbrev S4096x1024 : Shape := ⟨2, ![4096, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩

class Facts : Prop where
  bcast_S_S1024 : S_.BroadcastsInDim S1024 (![] : Fin 0 → Fin S1024.rank)
  bcast_S_S1024x5632 : S_.BroadcastsInDim S1024x5632 (![] : Fin 0 → Fin S1024x5632.rank)
  bcast_S_S3x5632 : S_.BroadcastsInDim S3x5632 (![] : Fin 0 → Fin S3x5632.rank)
  bcast_S_S5632 : S_.BroadcastsInDim S5632 (![] : Fin 0 → Fin S5632.rank)
  bcast_S_S2816x1024 : S_.BroadcastsInDim S2816x1024 (![] : Fin 0 → Fin S2816x1024.rank)

variable [Facts]

def fn {F : FTy → Type} [FloatOps F] (main_arg0 : FVec F S4096x1024 .f32) (main_arg1 : FVec F S1024 .f32) (main_arg2 : FVec F S1024x5632 .f32) (main_arg3 : FVec F S3x5632 .f32) (main_arg4 : FVec F S5632 .f32) (main_arg5 : FVec F S2816x1024 .f32) (main_arg6 : FVec F S4096x1024 .f32) : IVec S1024 1 × IVec S1024x5632 1 × IVec S3x5632 1 × IVec S5632 1 × IVec S2816x1024 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1024x5632 .f32 := Host.absf main_arg2
  let main_cst_0 : FVec F S_ .f32 := constant S_ .f32 0x7F800000#32
  let main_v4 : FVec F S1024x5632 .f32 := broadcastInDim S1024x5632 ![] bcast_S_S1024x5632 main_cst_0
  let main_v5 : IVec S1024x5632 1 := cmpf .olt main_v3 main_v4
  let main_v6 : FVec F S3x5632 .f32 := Host.absf main_arg3
  let main_cst_1 : FVec F S_ .f32 := constant S_ .f32 0x7F800000#32
  let main_v7 : FVec F S3x5632 .f32 := broadcastInDim S3x5632 ![] bcast_S_S3x5632 main_cst_1
  let main_v8 : IVec S3x5632 1 := cmpf .olt main_v6 main_v7
  let main_v9 : FVec F S5632 .f32 := Host.absf main_arg4
  let main_cst_2 : FVec F S_ .f32 := constant S_ .f32 0x7F800000#32
  let main_v10 : FVec F S5632 .f32 := broadcastInDim S5632 ![] bcast_S_S5632 main_cst_2
  let main_v11 : IVec S5632 1 := cmpf .olt main_v9 main_v10
  let main_v12 : FVec F S2816x1024 .f32 := Host.absf main_arg5
  let main_cst_3 : FVec F S_ .f32 := constant S_ .f32 0x7F800000#32
  let main_v13 : FVec F S2816x1024 .f32 := broadcastInDim S2816x1024 ![] bcast_S_S2816x1024 main_cst_3
  let main_v14 : IVec S2816x1024 1 := cmpf .olt main_v12 main_v13
  (main_v2, main_v5, main_v8, main_v11, main_v14)
-- ==== Kernel.lean ====
abbrev S4096x2048 : Shape := ⟨2, ![4096, 2048]⟩
abbrev S2048 : Shape := ⟨1, ![2048]⟩
abbrev S4096x1024 : Shape := ⟨2, ![4096, 1024]⟩
abbrev S1024x1024 : Shape := ⟨2, ![1024, 1024]⟩
abbrev S1x2048 : Shape := ⟨2, ![1, 2048]⟩
abbrev S_ : Shape := ⟨0, ![]⟩
abbrev S2048x1024 : Shape := ⟨2, ![2048, 1024]⟩
abbrev S256x1024 : Shape := ⟨2, ![256, 1024]⟩
abbrev S256x2048 : Shape := ⟨2, ![256, 2048]⟩
abbrev S1x1024 : Shape := ⟨2, ![1, 1024]⟩
abbrev S1024 : Shape := ⟨1, ![1024]⟩

abbrev nBuf : Space → Nat
  | .hbm => 35
  | .vmem => 22
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S1x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S_, .f32⟩
  | .hbm, ⟨16, _⟩ => ⟨S4096x2048, .f32⟩
  | .hbm, ⟨17, _⟩ => ⟨S4096x2048, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .bf16⟩
  | .hbm, ⟨24, _⟩ => ⟨S4096x1024, .bf16⟩
  | .hbm, ⟨25, _⟩ => ⟨S1024x1024, .bf16⟩
  | .hbm, ⟨26, _⟩ => ⟨S4096x1024, .bf16⟩
  | .hbm, ⟨27, _⟩ => ⟨S4096x1024, .bf16⟩
  | .hbm, ⟨28, _⟩ => ⟨S4096x1024, .bf16⟩
  | .hbm, ⟨29, _⟩ => ⟨S4096x1024, .f32⟩
  | .hbm, ⟨30, _⟩ => ⟨S4096x1024, .bf16⟩
  | .hbm, ⟨31, _⟩ => ⟨S4096x2048, .bf16⟩
  | .hbm, ⟨32, _⟩ => ⟨S1x2048, .f32⟩
  | .hbm, ⟨33, _⟩ => ⟨S1024x1024, .f32⟩
  | .hbm, ⟨34, _⟩ => ⟨S2048x1024, .f32⟩
  | .local _ .vmem, ⟨0, _⟩ => ⟨S256x1024, .bf16⟩
  | .local _ .vmem, ⟨1, _⟩ => ⟨S256x1024, .bf16⟩
  | .local _ .vmem, ⟨2, _⟩ => ⟨S1024x1024, .bf16⟩
  | .local _ .vmem, ⟨3, _⟩ => ⟨S256x2048, .f32⟩
  | .local _ .vmem, ⟨4, _⟩ => ⟨S256x2048, .f32⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .f32⟩
  | .local _ .vmem, ⟨14, _⟩ => ⟨S256x1024, .f32⟩
  | .local _ .vmem, ⟨15, _⟩ => ⟨S256x1024, .bf16⟩
  | .local _ .vmem, ⟨16, _⟩ => ⟨S256x1024, .bf16⟩
  | .local _ .vmem, ⟨17, _⟩ => ⟨S256x2048, .bf16⟩
  | .local _ .vmem, ⟨18, _⟩ => ⟨S256x2048, .bf16⟩
  | .local _ .vmem, ⟨19, _⟩ => ⟨S1x2048, .f32⟩
  | .local _ .vmem, ⟨20, _⟩ => ⟨S1024x1024, .f32⟩
  | .local _ .vmem, ⟨21, _⟩ => ⟨S2048x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20_0 : Ref sig .tc := ⟨.hbm, 29, rfl⟩
abbrev main_v20_1 : Ref sig .tc := ⟨.hbm, 30, rfl⟩
abbrev main_v20_2 : Ref sig .tc := ⟨.hbm, 31, rfl⟩
abbrev main_v20_3 : Ref sig .tc := ⟨.hbm, 32, rfl⟩
abbrev main_v20_4 : Ref sig .tc := ⟨.hbm, 33, rfl⟩
abbrev main_v20_5 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem11_0 : DmaSem sig := 20
abbrev cc0_sem12_0 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2048x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceIdeal.lean ====
abbrev S4096x2048 : Shape := ⟨2, ![4096, 2048]⟩
abbrev S2048 : Shape := ⟨1, ![2048]⟩
abbrev S4096x1024 : Shape := ⟨2, ![4096, 1024]⟩
abbrev S1024x1024 : Shape := ⟨2, ![1024, 1024]⟩
abbrev S1x2048 : Shape := ⟨2, ![1, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 55
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S1x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S_, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S1024x1024, .f32⟩
  | .hbm, ⟨29, _⟩ => ⟨S1024x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096x2048, .f32⟩
  | .hbm, ⟨37, _⟩ => ⟨S_, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S_, .f32⟩
  | .hbm, ⟨42, _⟩ => ⟨S2048, .f32⟩
  | .hbm, ⟨43, _⟩ => ⟨S1x2048, .f32⟩
  | .hbm, ⟨44, _⟩ => ⟨S_, .f32⟩
  | .hbm, ⟨45, _⟩ => ⟨S2048, .f32⟩
  | .hbm, ⟨46, _⟩ => ⟨S_, .f32⟩
  | .hbm, ⟨47, _⟩ => ⟨S1024x2048, .f32⟩
  | .hbm, ⟨48, _⟩ => ⟨S4096x2048, .f32⟩
  | .hbm, ⟨49, _⟩ => ⟨S2048x1024, .f32⟩
  | .hbm, ⟨50, _⟩ => ⟨S1024x2048, .f32⟩
  | .hbm, ⟨51, _⟩ => ⟨S4096x1024, .bf16⟩
  | .hbm, ⟨52, _⟩ => ⟨S4096x2048, .bf16⟩
  | .hbm, ⟨53, _⟩ => ⟨S1x2048, .f32⟩
  | .hbm, ⟨54, _⟩ => ⟨S2048x1024, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩

abbrev nD : Nat := 1
abbrev τ : Topo := Topo.v7x

variable {F : FTy → Type} [FloatOps F]
-- ==== Kernel2.lean ====
abbrev S4096x1024 : Shape := ⟨2, ![4096, 1024]⟩
abbrev S4096x5632 : Shape := ⟨2, ![4096, 5632]⟩
abbrev S5632x1024 : Shape := ⟨2, ![5632, 1024]⟩
abbrev S2048x1408 : Shape := ⟨2, ![2048, 1408]⟩
abbrev S1408x1024 : Shape := ⟨2, ![1408, 1024]⟩
abbrev S2048x1024 : Shape := ⟨2, ![2048, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x5632, .f32⟩
  | .hbm, ⟨2, _⟩ => ⟨S4096x5632, .bf16⟩
  | .hbm, ⟨3, _⟩ => ⟨S4096x1024, .bf16⟩
  | .hbm, ⟨4, _⟩ => ⟨S5632x1024, .f32⟩
  | .local _ .vmem, ⟨0, _⟩ => ⟨S2048x1408, .bf16⟩
  | .local _ .vmem, ⟨1, _⟩ => ⟨S2048x1408, .bf16⟩
  | .local _ .vmem, ⟨2, _⟩ => ⟨S4096x1024, .bf16⟩
  | .local _ .vmem, ⟨3, _⟩ => ⟨S1408x1024, .f32⟩
  | .local _ .vmem, ⟨4, _⟩ => ⟨S1408x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 2], ![false, false]⟩

def k0_mult1 (i : grid0.Coords) : BitVec 32 :=
  let arg1 : BitVec 32 := BitVec.ofNat 32 (i 1).val
  let c2048_i32 : BitVec 32 := 2048#32
  let v7 : BitVec 32 := Scalar.muli arg1 c2048_i32
  v7
def k0_off1 (i : grid0.Coords) : Fin 2 → Nat :=
  let arg1 : BitVec 32 := BitVec.ofNat 32 (i 1).val
  let c2048_i32 : BitVec 32 := 2048#32
  let v7 : BitVec 32 := Scalar.muli arg1 c2048_i32
  let v8 : BitVec 32 := v7
  let v9 : Index := Scalar.indexCast v8
  let c0_4 : Index := 0#32
  ![v9.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference2Ideal.lean ====
abbrev S4096x1024 : Shape := ⟨2, ![4096, 1024]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x5632, .f32⟩
  | .hbm, ⟨2, _⟩ => ⟨S_, .f32⟩
  | .hbm, ⟨3, _⟩ => ⟨S1024x5632, .f32⟩
  | .hbm, ⟨4, _⟩ => ⟨S4096x5632, .f32⟩
  | .hbm, ⟨5, _⟩ => ⟨S5632x1024, .f32⟩
  | .hbm, ⟨6, _⟩ => ⟨S1024x5632, .f32⟩
  | .hbm, ⟨7, _⟩ => ⟨S5632x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel3.lean ====
abbrev S4096x2816 : Shape := ⟨2, ![4096, 2816]⟩
abbrev S4096x1024 : Shape := ⟨2, ![4096, 1024]⟩
abbrev S2816x1024 : Shape := ⟨2, ![2816, 1024]⟩
abbrev S2048x1408 : Shape := ⟨2, ![2048, 1408]⟩
abbrev S1408x1024 : Shape := ⟨2, ![1408, 1024]⟩
abbrev S2048x1024 : Shape := ⟨2, ![2048, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S4096x2816, .bf16⟩
  | .hbm, ⟨3, _⟩ => ⟨S4096x1024, .bf16⟩
  | .hbm, ⟨4, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S4096x1024, .bf16⟩
  | .local _ .vmem, ⟨3, _⟩ => ⟨S1408x1024, .f32⟩
  | .local _ .vmem, ⟨4, _⟩ => ⟨S1408x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 2], ![false, false]⟩

def k0_mult1 (i : grid0.Coords) : BitVec 32 :=
  let arg1 : BitVec 32 := BitVec.ofNat 32 (i 1).val
  let c2048_i32 : BitVec 32 := 2048#32
  let v7 : BitVec 32 := Scalar.muli arg1 c2048_i32
  v7
def k0_off1 (i : grid0.Coords) : Fin 2 → Nat :=
  let arg1 : BitVec 32 := BitVec.ofNat 32 (i 1).val
  let c2048_i32 : BitVec 32 := 2048#32
  let v7 : BitVec 32 := Scalar.muli arg1 c2048_i32
  let v8 : BitVec 32 := v7
  let v9 : Index := Scalar.indexCast v8
  let c0_4 : Index := 0#32
  ![v9.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 7
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x1024, .f32⟩
  | .hbm, ⟨5, _⟩ => ⟨S1024x2816, .f32⟩
  | .hbm, ⟨6, _⟩ => ⟨S2816x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel4.lean ====
abbrev S4096x1024 : Shape := ⟨2, ![4096, 1024]⟩
abbrev S1024 : Shape := ⟨1, ![1024]⟩
abbrev S1024x4352 : Shape := ⟨2, ![1024, 4352]⟩
abbrev S2048 : Shape := ⟨1, ![2048]⟩
abbrev S1x1024 : Shape := ⟨2, ![1, 1024]⟩
abbrev S4352x1024 : Shape := ⟨2, ![4352, 1024]⟩
abbrev S1x2048 : Shape := ⟨2, ![1, 2048]⟩
abbrev S4096x256 : Shape := ⟨2, ![4096, 256]⟩
abbrev S4096x2048 : Shape := ⟨2, ![4096, 2048]⟩
abbrev S512x1024 : Shape := ⟨2, ![512, 1024]⟩
abbrev S512x256 : Shape := ⟨2, ![512, 256]⟩
abbrev S512x2048 : Shape := ⟨2, ![512, 2048]⟩
abbrev S512 : Shape := ⟨1, ![512]⟩
abbrev S512x1 : Shape := ⟨2, ![512, 1]⟩
abbrev S1024x1024 : Shape := ⟨2, ![1024, 1024]⟩
abbrev S256x1024 : Shape := ⟨2, ![256, 1024]⟩
abbrev S2048x1024 : Shape := ⟨2, ![2048, 1024]⟩

abbrev nBuf : Space → Nat
  | .hbm => 13
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4352, .f32⟩
  | .hbm, ⟨3, _⟩ => ⟨S2048, .f32⟩
  | .hbm, ⟨4, _⟩ => ⟨S1x1024, .f32⟩
  | .hbm, ⟨5, _⟩ => ⟨S4352x1024, .f32⟩
  | .hbm, ⟨6, _⟩ => ⟨S4352x1024, .bf16⟩
  | .hbm, ⟨7, _⟩ => ⟨S1x2048, .f32⟩
  | .hbm, ⟨8, _⟩ => ⟨S4096x1024, .bf16⟩
  | .hbm, ⟨9, _⟩ => ⟨S4096x1024, .f32⟩
  | .hbm, ⟨10, _⟩ => ⟨S4096x1024, .f32⟩
  | .hbm, ⟨11, _⟩ => ⟨S4096x256, .f32⟩
  | .hbm, ⟨12, _⟩ => ⟨S4096x2048, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4352x1024, .bf16⟩
  | .local _ .vmem, ⟨4, _⟩ => ⟨S1x2048, .f32⟩
  | .local _ .vmem, ⟨5, _⟩ => ⟨S512x1024, .bf16⟩
  | .local _ .vmem, ⟨6, _⟩ => ⟨S512x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x256, .f32⟩
  | .local _ .vmem, ⟨12, _⟩ => ⟨S512x256, .f32⟩
  | .local _ .vmem, ⟨13, _⟩ => ⟨S512x2048, .f32⟩
  | .local _ .vmem, ⟨14, _⟩ => ⟨S512x2048, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev main_v4_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4352x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference4Ideal.lean ====
abbrev S4096x1024 : Shape := ⟨2, ![4096, 1024]⟩
abbrev S1024 : Shape := ⟨1, ![1024]⟩
abbrev S1024x4352 : Shape := ⟨2, ![1024, 4352]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4352 : Shape := ⟨2, ![4096, 4352]⟩
abbrev S4096x2048 : Shape := ⟨2, ![4096, 2048]⟩
abbrev S1x2048 : Shape := ⟨2, ![1, 2048]⟩
abbrev S4096x256 : Shape := ⟨2, ![4096, 256]⟩

abbrev nBuf : Space → Nat
  | .hbm => 37
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4352, .f32⟩
  | .hbm, ⟨3, _⟩ => ⟨S2048, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x4352, .f32⟩
  | .hbm, ⟨21, _⟩ => ⟨S4096x2048, .f32⟩
  | .hbm, ⟨22, _⟩ => ⟨S1x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096x2048, .f32⟩
  | .hbm, ⟨32, _⟩ => ⟨S4096x2048, .f32⟩
  | .hbm, ⟨33, _⟩ => ⟨S4096x1024, .bf16⟩
  | .hbm, ⟨34, _⟩ => ⟨S4096x1024, .f32⟩
  | .hbm, ⟨35, _⟩ => ⟨S4096x1024, .f32⟩
  | .hbm, ⟨36, _⟩ => ⟨S4096x256, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]
-- ==== Kernel5.lean ====
abbrev S4096x1024 : Shape := ⟨2, ![4096, 1024]⟩
abbrev S4096x2048 : Shape := ⟨2, ![4096, 2048]⟩
abbrev S1024x1024 : Shape := ⟨2, ![1024, 1024]⟩
abbrev S512x1024 : Shape := ⟨2, ![512, 1024]⟩
abbrev S512x2048 : Shape := ⟨2, ![512, 2048]⟩

abbrev nBuf : Space → Nat
  | .hbm => 10
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S4096x1024, .bf16⟩
  | .hbm, ⟨6, _⟩ => ⟨S4096x1024, .bf16⟩
  | .hbm, ⟨7, _⟩ => ⟨S1024x1024, .bf16⟩
  | .hbm, ⟨8, _⟩ => ⟨S4096x1024, .f32⟩
  | .hbm, ⟨9, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x2048, .f32⟩
  | .local _ .vmem, ⟨3, _⟩ => ⟨S512x2048, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S1024x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference5Ideal.lean ====
abbrev S4096x1024 : Shape := ⟨2, ![4096, 1024]⟩
abbrev S4096x2048 : Shape := ⟨2, ![4096, 2048]⟩
abbrev S1024x1024 : Shape := ⟨2, ![1024, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Kernel6.lean ====
abbrev S4096x1024 : Shape := ⟨2, ![4096, 1024]⟩
abbrev S1024 : Shape := ⟨1, ![1024]⟩
abbrev S1024x4352 : Shape := ⟨2, ![1024, 4352]⟩
abbrev S4096x4352 : Shape := ⟨2, ![4096, 4352]⟩
abbrev S4096x256 : Shape := ⟨2, ![4096, 256]⟩
abbrev S4096x2048 : Shape := ⟨2, ![4096, 2048]⟩
abbrev S4352x1024 : Shape := ⟨2, ![4352, 1024]⟩
abbrev S1x1024 : Shape := ⟨2, ![1, 1024]⟩
abbrev S512x1024 : Shape := ⟨2, ![512, 1024]⟩
abbrev S512x256 : Shape := ⟨2, ![512, 256]⟩
abbrev S512x2048 : Shape := ⟨2, ![512, 2048]⟩
abbrev S1024x1024 : Shape := ⟨2, ![1024, 1024]⟩
abbrev S256x1024 : Shape := ⟨2, ![256, 1024]⟩
abbrev S2048x1024 : Shape := ⟨2, ![2048, 1024]⟩
abbrev S512 : Shape := ⟨1, ![512]⟩
abbrev S512x1 : Shape := ⟨2, ![512, 1]⟩

abbrev nBuf : Space → Nat
  | .hbm => 18
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4352, .f32⟩
  | .hbm, ⟨3, _⟩ => ⟨S4096x4352, .f32⟩
  | .hbm, ⟨4, _⟩ => ⟨S4096x1024, .f32⟩
  | .hbm, ⟨5, _⟩ => ⟨S4096x1024, .f32⟩
  | .hbm, ⟨6, _⟩ => ⟨S4096x1024, .bf16⟩
  | .hbm, ⟨7, _⟩ => ⟨S4096x1024, .f32⟩
  | .hbm, ⟨8, _⟩ => ⟨S4096x1024, .bf16⟩
  | .hbm, ⟨9, _⟩ => ⟨S4096x256, .f32⟩
  | .hbm, ⟨10, _⟩ => ⟨S4096x256, .bf16⟩
  | .hbm, ⟨11, _⟩ => ⟨S4096x2048, .f32⟩
  | .hbm, ⟨12, _⟩ => ⟨S4096x2048, .bf16⟩
  | .hbm, ⟨13, _⟩ => ⟨S4352x1024, .f32⟩
  | .hbm, ⟨14, _⟩ => ⟨S4352x1024, .bf16⟩
  | .hbm, ⟨15, _⟩ => ⟨S1x1024, .f32⟩
  | .hbm, ⟨16, _⟩ => ⟨S4096x1024, .f32⟩
  | .hbm, ⟨17, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x256, .bf16⟩
  | .local _ .vmem, ⟨5, _⟩ => ⟨S512x256, .bf16⟩
  | .local _ .vmem, ⟨6, _⟩ => ⟨S512x2048, .bf16⟩
  | .local _ .vmem, ⟨7, _⟩ => ⟨S512x2048, .bf16⟩
  | .local _ .vmem, ⟨8, _⟩ => ⟨S4352x1024, .bf16⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4352x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference6Ideal.lean ====
abbrev S4096x1024 : Shape := ⟨2, ![4096, 1024]⟩
abbrev S1024 : Shape := ⟨1, ![1024]⟩
abbrev S1024x4352 : Shape := ⟨2, ![1024, 4352]⟩
abbrev S4096x4352 : Shape := ⟨2, ![4096, 4352]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4352, .f32⟩
  | .hbm, ⟨3, _⟩ => ⟨S4096x4352, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x4352, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Kernel7.lean ====
abbrev S4096x1024 : Shape := ⟨2, ![4096, 1024]⟩
abbrev S1024 : Shape := ⟨1, ![1024]⟩
abbrev S1024x5632 : Shape := ⟨2, ![1024, 5632]⟩
abbrev S4096x5632 : Shape := ⟨2, ![4096, 5632]⟩
abbrev S16x8x32x5632 : Shape := ⟨4, ![16, 8, 32, 5632]⟩
abbrev S16x32x8x5632 : Shape := ⟨4, ![16, 32, 8, 5632]⟩
abbrev S5632x1024 : Shape := ⟨2, ![5632, 1024]⟩
abbrev S1x1024 : Shape := ⟨2, ![1, 1024]⟩
abbrev S256x256 : Shape := ⟨2, ![256, 256]⟩
abbrev S_ : Shape := ⟨0, ![]⟩
abbrev S256x5632 : Shape := ⟨2, ![256, 5632]⟩
abbrev S256x1024 : Shape := ⟨2, ![256, 1024]⟩
abbrev S256 : Shape := ⟨1, ![256]⟩
abbrev S256x1 : Shape := ⟨2, ![256, 1]⟩

abbrev nBuf : Space → Nat
  | .hbm => 51
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S4096x5632, .f32⟩
  | .hbm, ⟨4, _⟩ => ⟨S4096x1024, .f32⟩
  | .hbm, ⟨5, _⟩ => ⟨S16x8x32x5632, .f32⟩
  | .hbm, ⟨6, _⟩ => ⟨S16x32x8x5632, .f32⟩
  | .hbm, ⟨7, _⟩ => ⟨S4096x5632, .f32⟩
  | .hbm, ⟨8, _⟩ => ⟨S4096x5632, .bf16⟩
  | .hbm, ⟨9, _⟩ => ⟨S5632x1024, .f32⟩
  | .hbm, ⟨10, _⟩ => ⟨S5632x1024, .bf16⟩
  | .hbm, ⟨11, _⟩ => ⟨S1x1024, .f32⟩
  | .hbm, ⟨12, _⟩ => ⟨S256x256, .i32⟩
  | .hbm, ⟨13, _⟩ => ⟨S256x256, .i32⟩
  | .hbm, ⟨14, _⟩ => ⟨S_, .i32⟩
  | .hbm, ⟨15, _⟩ => ⟨S256x256, .i32⟩
  | .hbm, ⟨16, _⟩ => ⟨S256x256, .i32⟩
  | .hbm, ⟨17, _⟩ => ⟨S_, .i32⟩
  | .hbm, ⟨18, _⟩ => ⟨S256x256, .i32⟩
  | .hbm, ⟨19, _⟩ => ⟨S256x256, .i32⟩
  | .hbm, ⟨20, _⟩ => ⟨S_, .i32⟩
  | .hbm, ⟨21, _⟩ => ⟨S256x256, .i32⟩
  | .hbm, ⟨22, _⟩ => ⟨S256x256, .i32⟩
  | .hbm, ⟨23, _⟩ => ⟨S256x256, .i32⟩
  | .hbm, ⟨24, _⟩ => ⟨S256x256, .i1⟩
  | .hbm, ⟨25, _⟩ => ⟨S_, .f32⟩
  | .hbm, ⟨26, _⟩ => ⟨S_, .f32⟩
  | .hbm, ⟨27, _⟩ => ⟨S256x256, .f32⟩
  | .hbm, ⟨28, _⟩ => ⟨S256x256, .f32⟩
  | .hbm, ⟨29, _⟩ => ⟨S256x256, .f32⟩
  | .hbm, ⟨30, _⟩ => ⟨S256x256, .bf16⟩
  | .hbm, ⟨31, _⟩ => ⟨S_, .i32⟩
  | .hbm, ⟨32, _⟩ => ⟨S256x256, .i32⟩
  | .hbm, ⟨33, _⟩ => ⟨S256x256, .i32⟩
  | .hbm, ⟨34, _⟩ => ⟨S_, .i32⟩
  | .hbm, ⟨35, _⟩ => ⟨S256x256, .i32⟩
  | .hbm, ⟨36, _⟩ => ⟨S256x256, .i32⟩
  | .hbm, ⟨37, _⟩ => ⟨S_, .i32⟩
  | .hbm, ⟨38, _⟩ => ⟨S256x256, .i32⟩
  | .hbm, ⟨39, _⟩ => ⟨S256x256, .i32⟩
  | .hbm, ⟨40, _⟩ => ⟨S256x256, .i32⟩
  | .hbm, ⟨41, _⟩ => ⟨S256x256, .i1⟩
  | .hbm, ⟨42, _⟩ => ⟨S_, .f32⟩
  | .hbm, ⟨43, _⟩ => ⟨S_, .f32⟩
  | .hbm, ⟨44, _⟩ => ⟨S256x256, .f32⟩
  | .hbm, ⟨45, _⟩ => ⟨S256x256, .f32⟩
  | .hbm, ⟨46, _⟩ => ⟨S256x256, .f32⟩
  | .hbm, ⟨47, _⟩ => ⟨S256x256, .bf16⟩
  | .hbm, ⟨48, _⟩ => ⟨S4096x1024, .f32⟩
  | .hbm, ⟨49, _⟩ => ⟨S4096x1024, .bf16⟩
  | .hbm, ⟨50, _⟩ => ⟨S1x1024, .f32⟩
  | .local _ .vmem, ⟨0, _⟩ => ⟨S256x5632, .bf16⟩
  | .local _ .vmem, ⟨1, _⟩ => ⟨S256x5632, .bf16⟩
  | .local _ .vmem, ⟨2, _⟩ => ⟨S5632x1024, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x256, .bf16⟩
  | .local _ .vmem, ⟨9, _⟩ => ⟨S256x1024, .f32⟩
  | .local _ .vmem, ⟨10, _⟩ => ⟨S256x1024, .f32⟩
  | .local _ .vmem, ⟨11, _⟩ => ⟨S256x1024, .bf16⟩
  | .local _ .vmem, ⟨12, _⟩ => ⟨S256x1024, .bf16⟩
  | .local _ .vmem, ⟨13, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_v10 : Ref sig .tc := ⟨.hbm, 16, rfl⟩
abbrev main_c_0 : Ref sig .tc := ⟨.hbm, 17, rfl⟩
abbrev main_v11 : Ref sig .tc := ⟨.hbm, 18, rfl⟩
abbrev main_v12 : Ref sig .tc := ⟨.hbm, 19, rfl⟩
abbrev main_c_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_c_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_6 : Ref sig .tc := ⟨.hbm, 42, rfl⟩
abbrev main_cst_7 : Ref sig .tc := ⟨.hbm, 43, rfl⟩
abbrev main_call1_v0 : Ref sig .tc := ⟨.hbm, 44, rfl⟩
abbrev main_call1_v1 : Ref sig .tc := ⟨.hbm, 45, rfl⟩
abbrev main_v27 : Ref sig .tc := ⟨.hbm, 46, rfl⟩
abbrev main_v28 : Ref sig .tc := ⟨.hbm, 47, rfl⟩
abbrev main_v29_0 : Ref sig .tc := ⟨.hbm, 48, rfl⟩
abbrev main_v29_1 : Ref sig .tc := ⟨.hbm, 49, rfl⟩
abbrev main_v29_2 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference7Ideal.lean ====
abbrev S4096x1024 : Shape := ⟨2, ![4096, 1024]⟩
abbrev S1024 : Shape := ⟨1, ![1024]⟩
abbrev S1024x5632 : Shape := ⟨2, ![1024, 5632]⟩
abbrev S4096x5632 : Shape := ⟨2, ![4096, 5632]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S4096x5632, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x5632, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .bf16⟩
  | .hbm, ⟨54, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Kernel8.lean ====
abbrev S4096x1024 : Shape := ⟨2, ![4096, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1x1024 : Shape := ⟨2, ![1, 1024]⟩
abbrev S5632x1024 : Shape := ⟨2, ![5632, 1024]⟩
abbrev S1x5632 : Shape := ⟨2, ![1, 5632]⟩
abbrev S256x256 : Shape := ⟨2, ![256, 256]⟩
abbrev S_ : Shape := ⟨0, ![]⟩
abbrev S4096x5632 : Shape := ⟨2, ![4096, 5632]⟩
abbrev S8x128 : Shape := ⟨2, ![8, 128]⟩
abbrev S256x1024 : Shape := ⟨2, ![256, 1024]⟩
abbrev S256x5632 : Shape := ⟨2, ![256, 5632]⟩
abbrev S16x5632 : Shape := ⟨2, ![16, 5632]⟩
abbrev S256 : Shape := ⟨1, ![256]⟩
abbrev S256x1 : Shape := ⟨2, ![256, 1]⟩
abbrev S1408x1024 : Shape := ⟨2, ![1408, 1024]⟩
abbrev S256x1408 : Shape := ⟨2, ![256, 1408]⟩
abbrev S16x1408 : Shape := ⟨2, ![16, 1408]⟩
abbrev S3x1408 : Shape := ⟨2, ![3, 1408]⟩
abbrev S1x1408 : Shape := ⟨2, ![1, 1408]⟩
abbrev S8x1408 : Shape := ⟨2, ![8, 1408]⟩
abbrev S240x1408 : Shape := ⟨2, ![240, 1408]⟩
abbrev S1x256x1024 : Shape := ⟨3, ![1, 256, 1024]⟩
abbrev S1 : Shape := ⟨1, ![1]⟩
abbrev S1x1x1 : Shape := ⟨3, ![1, 1, 1]⟩

abbrev nBuf : Space → Nat
  | .hbm => 54
  | .vmem => 23
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S4096x1024, .f32⟩
  | .hbm, ⟨7, _⟩ => ⟨S1x1024, .f32⟩
  | .hbm, ⟨8, _⟩ => ⟨S5632x1024, .f32⟩
  | .hbm, ⟨9, _⟩ => ⟨S5632x1024, .bf16⟩
  | .hbm, ⟨10, _⟩ => ⟨S1x5632, .f32⟩
  | .hbm, ⟨11, _⟩ => ⟨S2816x1024, .bf16⟩
  | .hbm, ⟨12, _⟩ => ⟨S256x256, .i32⟩
  | .hbm, ⟨13, _⟩ => ⟨S256x256, .i32⟩
  | .hbm, ⟨14, _⟩ => ⟨S_, .i32⟩
  | .hbm, ⟨15, _⟩ => ⟨S256x256, .i32⟩
  | .hbm, ⟨16, _⟩ => ⟨S256x256, .i32⟩
  | .hbm, ⟨17, _⟩ => ⟨S_, .i32⟩
  | .hbm, ⟨18, _⟩ => ⟨S256x256, .i32⟩
  | .hbm, ⟨19, _⟩ => ⟨S256x256, .i32⟩
  | .hbm, ⟨20, _⟩ => ⟨S_, .i32⟩
  | .hbm, ⟨21, _⟩ => ⟨S256x256, .i32⟩
  | .hbm, ⟨22, _⟩ => ⟨S256x256, .i32⟩
  | .hbm, ⟨23, _⟩ => ⟨S256x256, .i32⟩
  | .hbm, ⟨24, _⟩ => ⟨S256x256, .i1⟩
  | .hbm, ⟨25, _⟩ => ⟨S_, .f32⟩
  | .hbm, ⟨26, _⟩ => ⟨S_, .f32⟩
  | .hbm, ⟨27, _⟩ => ⟨S256x256, .f32⟩
  | .hbm, ⟨28, _⟩ => ⟨S256x256, .f32⟩
  | .hbm, ⟨29, _⟩ => ⟨S256x256, .f32⟩
  | .hbm, ⟨30, _⟩ => ⟨S256x256, .bf16⟩
  | .hbm, ⟨31, _⟩ => ⟨S_, .i32⟩
  | .hbm, ⟨32, _⟩ => ⟨S256x256, .i32⟩
  | .hbm, ⟨33, _⟩ => ⟨S256x256, .i32⟩
  | .hbm, ⟨34, _⟩ => ⟨S_, .i32⟩
  | .hbm, ⟨35, _⟩ => ⟨S256x256, .i32⟩
  | .hbm, ⟨36, _⟩ => ⟨S256x256, .i32⟩
  | .hbm, ⟨37, _⟩ => ⟨S_, .i32⟩
  | .hbm, ⟨38, _⟩ => ⟨S256x256, .i32⟩
  | .hbm, ⟨39, _⟩ => ⟨S256x256, .i32⟩
  | .hbm, ⟨40, _⟩ => ⟨S256x256, .i32⟩
  | .hbm, ⟨41, _⟩ => ⟨S256x256, .i1⟩
  | .hbm, ⟨42, _⟩ => ⟨S_, .f32⟩
  | .hbm, ⟨43, _⟩ => ⟨S_, .f32⟩
  | .hbm, ⟨44, _⟩ => ⟨S256x256, .f32⟩
  | .hbm, ⟨45, _⟩ => ⟨S256x256, .f32⟩
  | .hbm, ⟨46, _⟩ => ⟨S256x256, .f32⟩
  | .hbm, ⟨47, _⟩ => ⟨S256x256, .bf16⟩
  | .hbm, ⟨48, _⟩ => ⟨S4096x1024, .bf16⟩
  | .hbm, ⟨49, _⟩ => ⟨S4096x5632, .f32⟩
  | .hbm, ⟨50, _⟩ => ⟨S4096x5632, .f32⟩
  | .hbm, ⟨51, _⟩ => ⟨S4096x1024, .f32⟩
  | .hbm, ⟨52, _⟩ => ⟨S4096x1024, .bf16⟩
  | .hbm, ⟨53, _⟩ => ⟨S8x128, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S5632x1024, .bf16⟩
  | .local _ .vmem, ⟨4, _⟩ => ⟨S3x5632, .f32⟩
  | .local _ .vmem, ⟨5, _⟩ => ⟨S1x5632, .f32⟩
  | .local _ .vmem, ⟨6, _⟩ => ⟨S2816x1024, .bf16⟩
  | .local _ .vmem, ⟨7, _⟩ => ⟨S256x1024, .f32⟩
  | .local _ .vmem, ⟨8, _⟩ => ⟨S256x1024, .f32⟩
  | .local _ .vmem, ⟨9, _⟩ => ⟨S256x256, .bf16⟩
  | .local _ .vmem, ⟨10, _⟩ => ⟨S256x256, .bf16⟩
  | .local _ .vmem, ⟨11, _⟩ => ⟨S256x1024, .bf16⟩
  | .local _ .vmem, ⟨12, _⟩ => ⟨S256x1024, .bf16⟩
  | .local _ .vmem, ⟨13, _⟩ => ⟨S256x5632, .f32⟩
  | .local _ .vmem, ⟨14, _⟩ => ⟨S256x5632, .f32⟩
  | .local _ .vmem, ⟨15, _⟩ => ⟨S256x5632, .f32⟩
  | .local _ .vmem, ⟨16, _⟩ => ⟨S256x5632, .f32⟩
  | .local _ .vmem, ⟨17, _⟩ => ⟨S256x1024, .f32⟩
  | .local _ .vmem, ⟨18, _⟩ => ⟨S256x1024, .f32⟩
  | .local _ .vmem, ⟨19, _⟩ => ⟨S256x1024, .bf16⟩
  | .local _ .vmem, ⟨20, _⟩ => ⟨S256x1024, .bf16⟩
  | .local _ .vmem, ⟨21, _⟩ => ⟨S8x128, .f32⟩
  | .local _ .vmem, ⟨22, _⟩ => ⟨S16x5632, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_c_0 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_c_5 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_6 : Ref sig .tc := ⟨.hbm, 42, rfl⟩
abbrev main_cst_7 : Ref sig .tc := ⟨.hbm, 43, rfl⟩
abbrev main_call1_v0 : Ref sig .tc := ⟨.hbm, 44, rfl⟩
abbrev main_call1_v1 : Ref sig .tc := ⟨.hbm, 45, rfl⟩
abbrev main_v25 : Ref sig .tc := ⟨.hbm, 46, rfl⟩
abbrev main_v26 : Ref sig .tc := ⟨.hbm, 47, rfl⟩
abbrev main_v27_0 : Ref sig .tc := ⟨.hbm, 48, rfl⟩
abbrev main_v27_1 : Ref sig .tc := ⟨.hbm, 49, rfl⟩
abbrev main_v27_2 : Ref sig .tc := ⟨.hbm, 50, rfl⟩
abbrev main_v27_3 : Ref sig .tc := ⟨.hbm, 51, rfl⟩
abbrev main_v27_4 : Ref sig .tc := ⟨.hbm, 52, rfl⟩
abbrev main_v27_5 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5632x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x5632 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x5632 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S8x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Reference8Ideal.lean ====
abbrev S4096x1024 : Shape := ⟨2, ![4096, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S4098x5632 : Shape := ⟨2, ![4098, 5632]⟩
abbrev S1x5632 : Shape := ⟨2, ![1, 5632]⟩
abbrev S4096x2816 : Shape := ⟨2, ![4096, 2816]⟩
abbrev S16x8x32x1024 : Shape := ⟨4, ![16, 8, 32, 1024]⟩
abbrev S16x32x8x1024 : Shape := ⟨4, ![16, 32, 8, 1024]⟩
abbrev S16x8x32x5632 : Shape := ⟨4, ![16, 8, 32, 5632]⟩
abbrev S16x32x8x5632 : Shape := ⟨4, ![16, 32, 8, 5632]⟩
abbrev S8x128 : Shape := ⟨2, ![8, 128]⟩

abbrev nBuf : Space → Nat
  | .hbm => 102
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x5632, .f32⟩
  | .hbm, ⟨24, _⟩ => ⟨S_, .i32⟩
  | .hbm, ⟨25, _⟩ => ⟨S_, .f32⟩
  | .hbm, ⟨26, _⟩ => ⟨S4098x5632, .f32⟩
  | .hbm, ⟨27, _⟩ => ⟨S1x5632, .f32⟩
  | .hbm, ⟨28, _⟩ => ⟨S5632, .f32⟩
  | .hbm, ⟨29, _⟩ => ⟨S4096x5632, .f32⟩
  | .hbm, ⟨30, _⟩ => ⟨S1x5632, .f32⟩
  | .hbm, ⟨31, _⟩ => ⟨S4096x5632, .f32⟩
  | .hbm, ⟨32, _⟩ => ⟨S4096x5632, .f32⟩
  | .hbm, ⟨33, _⟩ => ⟨S1x5632, .f32⟩
  | .hbm, ⟨34, _⟩ => ⟨S4096x5632, .f32⟩
  | .hbm, ⟨35, _⟩ => ⟨S4096x5632, .f32⟩
  | .hbm, ⟨36, _⟩ => ⟨S1x5632, .f32⟩
  | .hbm, ⟨37, _⟩ => ⟨S5632, .f32⟩
  | .hbm, ⟨38, _⟩ => ⟨S4096x5632, .f32⟩
  | .hbm, ⟨39, _⟩ => ⟨S1x5632, .f32⟩
  | .hbm, ⟨40, _⟩ => ⟨S4096x5632, .f32⟩
  | .hbm, ⟨41, _⟩ => ⟨S4096x5632, .f32⟩
  | .hbm, ⟨42, _⟩ => ⟨S4096x5632, .f32⟩
  | .hbm, ⟨43, _⟩ => ⟨S1x5632, .f32⟩
  | .hbm, ⟨44, _⟩ => ⟨S5632, .f32⟩
  | .hbm, ⟨45, _⟩ => ⟨S4096x5632, .f32⟩
  | .hbm, ⟨46, _⟩ => ⟨S1x5632, .f32⟩
  | .hbm, ⟨47, _⟩ => ⟨S4096x5632, .f32⟩
  | .hbm, ⟨48, _⟩ => ⟨S4096x5632, .f32⟩
  | .hbm, ⟨49, _⟩ => ⟨S4096x5632, .f32⟩
  | .hbm, ⟨50, _⟩ => ⟨S4096x2816, .f32⟩
  | .hbm, ⟨51, _⟩ => ⟨S4096x2816, .f32⟩
  | .hbm, ⟨52, _⟩ => ⟨S4096x2816, .f32⟩
  | .hbm, ⟨53, _⟩ => ⟨S4096x2816, .f32⟩
  | .hbm, ⟨54, _⟩ => ⟨S_, .f32⟩
  | .hbm, ⟨55, _⟩ => ⟨S4096x2816, .f32⟩
  | .hbm, ⟨56, _⟩ => ⟨S4096x2816, .f32⟩
  | .hbm, ⟨57, _⟩ => ⟨S_, .f32⟩
  | .hbm, ⟨58, _⟩ => ⟨S4096x2816, .f32⟩
  | .hbm, ⟨59, _⟩ => ⟨S4096x2816, .f32⟩
  | .hbm, ⟨60, _⟩ => ⟨S4096x2816, .f32⟩
  | .hbm, ⟨61, _⟩ => ⟨S4096x2816, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S_, .f32⟩
  | .hbm, ⟨67, _⟩ => ⟨S4096x1024, .f32⟩
  | .hbm, ⟨68, _⟩ => ⟨S4096x1024, .f32⟩
  | .hbm, ⟨69, _⟩ => ⟨S_, .f32⟩
  | .hbm, ⟨70, _⟩ => ⟨S4096, .f32⟩
  | .hbm, ⟨71, _⟩ => ⟨S_, .f32⟩
  | .hbm, ⟨72, _⟩ => ⟨S4096, .f32⟩
  | .hbm, ⟨73, _⟩ => ⟨S4096, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S4096, .f32⟩
  | .hbm, ⟨82, _⟩ => ⟨S_, .f32⟩
  | .hbm, ⟨83, _⟩ => ⟨S4096, .f32⟩
  | .hbm, ⟨84, _⟩ => ⟨S4096, .f32⟩
  | .hbm, ⟨85, _⟩ => ⟨S4096x1024, .f32⟩
  | .hbm, ⟨86, _⟩ => ⟨S4096x1024, .f32⟩
  | .hbm, ⟨87, _⟩ => ⟨S16x8x32x1024, .f32⟩
  | .hbm, ⟨88, _⟩ => ⟨S16x32x8x1024, .f32⟩
  | .hbm, ⟨89, _⟩ => ⟨S4096x1024, .f32⟩
  | .hbm, ⟨90, _⟩ => ⟨S4096x1024, .bf16⟩
  | .hbm, ⟨91, _⟩ => ⟨S16x8x32x5632, .f32⟩
  | .hbm, ⟨92, _⟩ => ⟨S16x32x8x5632, .f32⟩
  | .hbm, ⟨93, _⟩ => ⟨S4096x5632, .f32⟩
  | .hbm, ⟨94, _⟩ => ⟨S16x8x32x5632, .f32⟩
  | .hbm, ⟨95, _⟩ => ⟨S16x32x8x5632, .f32⟩
  | .hbm, ⟨96, _⟩ => ⟨S4096x5632, .f32⟩
  | .hbm, ⟨97, _⟩ => ⟨S16x8x32x1024, .f32⟩
  | .hbm, ⟨98, _⟩ => ⟨S16x32x8x1024, .f32⟩
  | .hbm, ⟨99, _⟩ => ⟨S4096x1024, .f32⟩
  | .hbm, ⟨100, _⟩ => ⟨S4096x1024, .bf16⟩
  | .hbm, ⟨101, _⟩ => ⟨S8x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c : Ref sig .tc := ⟨.hbm, 24, rfl⟩
abbrev main_call0_v0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_call1_v0 : Ref sig .tc := ⟨.hbm, 52, rfl⟩
abbrev main_call1_v1 : Ref sig .tc := ⟨.hbm, 53, rfl⟩
abbrev main_call1_cst : Ref sig .tc := ⟨.hbm, 54, rfl⟩
abbrev main_call1_v2 : Ref sig .tc := ⟨.hbm, 55, rfl⟩
abbrev main_call1_v3 : Ref sig .tc := ⟨.hbm, 56, rfl⟩
abbrev main_call1_cst_0 : Ref sig .tc := ⟨.hbm, 57, rfl⟩
abbrev main_call1_v4 : Ref sig .tc := ⟨.hbm, 58, rfl⟩
abbrev main_call1_v5 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_2 : Ref sig .tc := ⟨.hbm, 66, rfl⟩
abbrev main_v46 : Ref sig .tc := ⟨.hbm, 67, rfl⟩
abbrev main_v47 : Ref sig .tc := ⟨.hbm, 68, rfl⟩
abbrev main_cst_3 : Ref sig .tc := ⟨.hbm, 69, rfl⟩
abbrev main_v48 : Ref sig .tc := ⟨.hbm, 70, rfl⟩
abbrev main_cst_4 : Ref sig .tc := ⟨.hbm, 71, rfl⟩
abbrev main_v49 : Ref sig .tc := ⟨.hbm, 72, rfl⟩
abbrev main_v50 : Ref sig .tc := ⟨.hbm, 73, rfl⟩
abbrev main_cst_5 : Ref sig .tc := ⟨.hbm, 74, rfl⟩
abbrev main_v51 : Ref sig .tc := ⟨.hbm, 75, rfl⟩
abbrev main_cst_6 : Ref sig .tc := ⟨.hbm, 76, rfl⟩
abbrev main_v52 : Ref sig .tc := ⟨.hbm, 77, rfl⟩
abbrev main_cst_7 : Ref sig .tc := ⟨.hbm, 78, rfl⟩
abbrev main_cst_8 : Ref sig .tc := ⟨.hbm, 79, rfl⟩
abbrev main_v53 : Ref sig .tc := ⟨.hbm, 80, rfl⟩
abbrev main_v54 : Ref sig .tc := ⟨.hbm, 81, rfl⟩
abbrev main_cst_9 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩

abbrev nD : Nat := 1
abbrev τ : Topo := Topo.v7x

variable {F : FTy → Type} [FloatOps F]
-- ==== Proof.Mix.lean ====
/- The gradient of the gated mix, row tile by row tile: what each grid point computes. -/
module

public import proofs.«01_k».proof.Proof.Gen.KernelIdeal.Frame
public import proofs.«01_k».proof.Proof.Gen.ReferenceIdeal.Read
public import Idealize.ShloMosaic.Lib.Pipeline.ValueKit
public import Idealize.ShloMosaic.Lib.Pipeline.ReadBack

@[expose] public section

set_option maxRecDepth 16384

noncomputable section

namespace Cert.KernelIdeal.Mix

open Idealize.ShloMosaic Idealize.ShloMosaic.TcCoe Idealize.SL.Sem
open Idealize.ShloMosaic.Pipeline (Dat)
open Cert.KernelIdeal Cert.KernelIdeal.Gen
open Cert.ReferenceIdeal.Read

variable (m : (ℓ : Loc nD τ sig) → Buf (Elt Ideal) ℓ)

/-- Every window's block index at each grid point. -/
theorem idx : ∀ t : Fin cfg0.N, win0_0.index t = ![t.val, 0] ∧ win0_1.index t = ![0, 0]
    ∧ win0_2.index t = ![t.val, 0] ∧ win0_3.index t = ![t.val, 0] ∧ win0_4.index t = ![t.val, 0]
    ∧ win0_5.index t = ![t.val, 0] ∧ win0_6.index t = ![t.val, 0] ∧ win0_7.index t = ![t.val, 0]
    ∧ win0_8.index t = ![t.val, 0] ∧ win0_9.index t = ![t.val, 0] ∧ win0_10.index t = ![0, 0]
    ∧ win0_11.index t = ![0, 0] ∧ win0_12.index t = ![0, 0] :=
  (by decide +kernel : ∀ t : Fin grid0.N, _)

/-- The cotangent of the mix. -/
theorem dmix_at (c : Dev nD) (t : Fin cfg0.N) (i : S256x1024.Idx) (j : S4096x1024.Idx)
    (h0 : (j 0 : ℕ) = t.val * 256 + i 0) (h1 : (j 1 : ℕ) = i 1) :
    k0_pay8 (F := Ideal) (iblk m c 0 t) (iblk m c 1 t) i
      = val_main_v20 (F := Ideal) (m ((c : Thread nD τ).loc main_arg4)) (m ((c : Thread nD τ).loc main_arg6)) j := by
  pointwise [k0_pay8, k0_pay6, val_main_v20]
  blk_point [iblk, V, idx t]

/-- The gates: the host computes them as the reference does. -/
theorem gate_arr (c : Dev nD) : V m c main_v8
      = val_main_v8 (F := Ideal) (m ((c : Thread nD τ).loc main_arg0)) (m ((c : Thread nD τ).loc main_arg1)) := rfl

theorem gate_at (c : Dev nD) (t : Fin cfg0.N) (i : S256x2048.Idx) (j : S4096x2048.Idx)
    (h0 : (j 0 : ℕ) = t.val * 256 + i 0) (h1 : (j 1 : ℕ) = i 1) :
    (show FVec Ideal S256x2048 .f32 from iblk m c 2 t) i
      = val_main_v8 (F := Ideal) (m ((c : Thread nD τ).loc main_arg0)) (m ((c : Thread nD τ).loc main_arg1)) j := by
  rw [← gate_arr]
  blk_point [iblk, idx t]

/-- The gradient of the gates' inputs, read off the arguments. -/
abbrev dzg (c : Dev nD) : (⟨S4096x2048, .f32⟩ : BufTy).Contents (Elt Ideal) :=
  val_main_v28 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg6))

/-- Its first half, as the tile computes it. -/
theorem dzg_left (c : Dev nD) (t : Fin cfg0.N) (gl : Vec Ideal S256x1024 .f32) (i : S256x1024.Idx) (j : S4096x2048.Idx)
    (h0 : (j 0 : ℕ) = t.val * 256 + i 0) (h1 : (j 1 : ℕ) = i 1)
    (hg : gl i = val_main_v8 (F := Ideal) (m ((c : Thread nD τ).loc main_arg0)) (m ((c : Thread nD τ).loc main_arg1)) j) :
    k0_pay11 (F := Ideal) (iblk m c 0 t) (iblk m c 1 t) gl (iblk m c 3 t) i = dzg m c j := by
  have hj : (j 1 : ℕ) < 1024 := by rw [h1]; exact (i 1).isLt
  pointwise [k0_pay11, k0_pay9, dzg, val_main_v28, val_main_v27, val_main_v26, val_main_v25, val_main_v24, val_main_v22,
    val_main_v11, val_main_v10, val_main_v9, val_main_cst_1, val_main_cst_2, val_main_cst_3]
  rw [dif_neg (by omega), dif_pos hj, zero_add, hg, ← mul_assoc]
  refine congrArg (fun z => z * _ * _) (congrArg₂ (· * ·) (dmix_at m c t i _ h0 h1) ?_)
  blk_point [iblk, V, idx t]

/-- Its second half, as the tile computes it. -/
theorem dzg_right (c : Dev nD) (t : Fin cfg0.N) (gr : Vec Ideal S256x1024 .f32) (i : S256x1024.Idx) (j : S4096x2048.Idx)
    (h0 : (j 0 : ℕ) = t.val * 256 + i 0) (h1 : (j 1 : ℕ) = 1024 + i 1)
    (hg : gr i = val_main_v8 (F := Ideal) (m ((c : Thread nD τ).loc main_arg0)) (m ((c : Thread nD τ).loc main_arg1)) j) :
    k0_pay17 (F := Ideal) (k0_pay8 (iblk m c 0 t) (iblk m c 1 t)) gr (iblk m c 4 t) i = dzg m c j := by
  have hi : (i 1 : ℕ) < 1024 := (i 1).isLt
  pointwise [k0_pay17, k0_pay15, dzg, val_main_v28, val_main_v27, val_main_v26, val_main_v25, val_main_v24, val_main_v22,
    val_main_v11, val_main_v10, val_main_v9, val_main_cst_1, val_main_cst_2, val_main_cst_3]
  rw [dif_pos (by omega), dif_neg (by omega), add_zero, hg, ← mul_assoc]
  refine congrArg (fun z => z * _ * _) (congrArg₂ (· * ·) (dmix_at m c t i _ h0 ?_) ?_)
  · show (j 1 : ℕ) - 1024 = _
    omega
  blk_point [iblk, V, idx t]

/-- The tile's gates, the pooled branch's half and the attention's. -/
abbrev gl (c : Dev nD) (t : Fin cfg0.N) : Vec Ideal S256x1024 .f32 :=
  View.ld (iblk m c 2 t) (Rect.unit ![0, 0] ![256, 1024] inb_S256x2048_S256x1024_0_0)

abbrev gr (c : Dev nD) (t : Fin cfg0.N) : Vec Ideal S256x1024 .f32 :=
  View.ld (iblk m c 2 t) (Rect.unit ![0, 1024] ![256, 1024] inb_S256x2048_S256x1024_0_1024)

/-- The gates' halves as the tile reads them. -/
theorem gate_left (c : Dev nD) (t : Fin cfg0.N) (i : S256x1024.Idx) (j : S4096x2048.Idx)
    (h0 : (j 0 : ℕ) = t.val * 256 + i 0) (h1 : (j 1 : ℕ) = i 1) :
    gl m c t i
      = val_main_v8 (F := Ideal) (m ((c : Thread nD τ).loc main_arg0)) (m ((c : Thread nD τ).loc main_arg1)) j := by
  have hi : (i 1 : ℕ) < 1024 := (i 1).isLt
  refine Eq.trans ?_ (gate_at m c t (ix2 (i 0) ⟨(i 1 : ℕ), by omega⟩) j h0 h1)
  refine congrArg (iblk m c 2 t) ?_
  funext a
  refine Fin.ext ?_
  fin_cases a <;> first
      | exact rfl
      | exact (Rect.idx_unit_val _ _ _ _ _).trans (Nat.zero_add _)
      | exact Rect.idx_unit_val _ _ _ _ _
      | exact ((Rect.idx_unit_val _ _ _ _ _).trans (Nat.zero_add _)).symm
      | exact (Rect.idx_unit_val _ _ _ _ _).symm

theorem gate_right (c : Dev nD) (t : Fin cfg0.N) (i : S256x1024.Idx) (j : S4096x2048.Idx)
    (h0 : (j 0 : ℕ) = t.val * 256 + i 0) (h1 : (j 1 : ℕ) = 1024 + i 1) :
    gr m c t i
      = val_main_v8 (F := Ideal) (m ((c : Thread nD τ).loc main_arg0)) (m ((c : Thread nD τ).loc main_arg1)) j := by
  have hi : (i 1 : ℕ) < 1024 := (i 1).isLt
  refine Eq.trans ?_ (gate_at m c t (ix2 (i 0) ⟨1024 + (i 1 : ℕ), by omega⟩) j h0 h1)
  refine congrArg (iblk m c 2 t) ?_
  funext a
  refine Fin.ext ?_
  fin_cases a <;> first
      | exact rfl
      | exact (Rect.idx_unit_val _ _ _ _ _).trans (Nat.zero_add _)
      | exact Rect.idx_unit_val _ _ _ _ _
      | exact ((Rect.idx_unit_val _ _ _ _ _).trans (Nat.zero_add _)).symm
      | exact (Rect.idx_unit_val _ _ _ _ _).symm

theorem da_at (c : Dev nD) (t : Fin cfg0.N) (i : S256x1024.Idx) (j : S4096x1024.Idx)
    (h0 : (j 0 : ℕ) = t.val * 256 + i 0) (h1 : (j 1 : ℕ) = i 1) :
    k0_pay10 (F := Ideal) (iblk m c 0 t) (iblk m c 1 t)
        (gl m c t) i
      = val_main_v23 (F := Ideal) (m ((c : Thread nD τ).loc main_arg0)) (m ((c : Thread nD τ).loc main_arg1))
        (m ((c : Thread nD τ).loc main_arg4)) (m ((c : Thread nD τ).loc main_arg6)) j := by
  refine Eq.trans ?_ (mul_comm _ _)
  pointwise [k0_pay10, k0_pay9, val_main_v23, val_main_v12]
  refine congrArg₂ (· * ·) (dmix_at m c t i j h0 h1) ?_
  exact gate_left m c t i _ h0 h1

theorem db_at (c : Dev nD) (t : Fin cfg0.N) (i : S256x1024.Idx) (j : S4096x1024.Idx)
    (h0 : (j 0 : ℕ) = t.val * 256 + i 0) (h1 : (j 1 : ℕ) = i 1) :
    k0_pay16 (F := Ideal) (k0_pay8 (iblk m c 0 t) (iblk m c 1 t))
        (gr m c t) i
      = val_main_v36 (F := Ideal) (m ((c : Thread nD τ).loc main_arg0)) (m ((c : Thread nD τ).loc main_arg1))
        (m ((c : Thread nD τ).loc main_arg4)) (m ((c : Thread nD τ).loc main_arg6)) j := by
  refine Eq.trans ?_ (mul_comm _ _)
  pointwise [k0_pay16, k0_pay15, val_main_v36, val_main_v21, val_main_v13]
  refine congrArg₂ (· * ·) (dmix_at m c t i j h0 h1) ?_
  refine gate_right m c t i _ h0 ?_
  show 1024 + (j 1 : ℕ) = _
  rw [h1]

/-- The pooled branch's cotangent. -/
theorem final7 (c : Dev nD) : (dats m 0 c).arrAt 7 (cfgs 0).N
    = val_main_v23 (F := Ideal) (m ((c : Thread nD τ).loc main_arg0)) (m ((c : Thread nD τ).loc main_arg1))
        (m ((c : Thread nD τ).loc main_arg4)) (m ((c : Thread nD τ).loc main_arg6)) := by
  refine (dats m 0 c).arrAt_eq_of_covers 7 _ (by decide +kernel) fun t hf y => ?_
  blk_simp
  rw [after0_7]
  by_cases h : t.val % 16 = 0
  on_goal 1 => rw [outsAt0_A m c t h]
  on_goal 2 => rw [outsAt0_B m c t h]
  all_goals
    frame_out
    refine da_at m c t y _ ?_ ?_ <;> (blk_simp [idx t] <;> try omega)

theorem final8 (c : Dev nD) : (dats m 0 c).arrAt 8 (cfgs 0).N
    = val_main_v36 (F := Ideal) (m ((c : Thread nD τ).loc main_arg0)) (m ((c : Thread nD τ).loc main_arg1))
        (m ((c : Thread nD τ).loc main_arg4)) (m ((c : Thread nD τ).loc main_arg6)) := by
  refine (dats m 0 c).arrAt_eq_of_covers 8 _ (by decide +kernel) fun t hf y => ?_
  blk_simp
  rw [after0_8]
  by_cases h : t.val % 16 = 0
  on_goal 1 => rw [outsAt0_A m c t h]
  on_goal 2 => rw [outsAt0_B m c t h]
  all_goals
    frame_out
    refine db_at m c t y _ ?_ ?_ <;> (blk_simp [idx t] <;> try omega)

/-- The gradient of the gates' inputs, in its two column halves. -/
theorem final9 (c : Dev nD) : (dats m 0 c).arrAt 9 (cfgs 0).N
    = val_main_v37 (F := Ideal) (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg6)) := by
  refine (dats m 0 c).arrAt_eq_of_covers 9 _ (by decide +kernel) fun t hf y => ?_
  blk_simp
  rw [after0_9]
  refine Eq.trans ?_ (show dzg m c _ = _ from rfl)
  by_cases h : t.val % 16 = 0
  on_goal 1 => rw [outsAt0_A m c t h]
  on_goal 2 => rw [outsAt0_B m c t h]
  all_goals
    frame_out
    canon_tiles x h
    on_goal 1 => refine dzg_right m c t (gr m c t) x _ ?_ ?_ (gate_right m c t x _ ?_ ?_)
    on_goal 5 => refine dzg_left m c t (gl m c t) x _ ?_ ?_ (gate_left m c t x _ ?_ ?_)
    all_goals (blk_simp [idx t] <;> try omega)

/-- The array's row under row `k` of tile `p`. -/
def row (p : Fin cfg0.N) (k : Fin 256) : Fin 4096 :=
  ⟨p.val * 256 + k.val, by have := lt_of_lt_of_eq p.isLt N_0; omega⟩

/-- One tile's part of the gates' bias gradient is added to what the block holds. -/
theorem acc10 (c : Dev nD) (t : Fin cfg0.N) (prev : Vec Ideal S1x2048 .f32) (L) (y : S1x2048.Idx) :
    View.canon (⟨Rect.unit ![0, 1024] ![1, 1024] inb_S1x2048_S1x1024_0_1024,
          k0_pay2 (F := Ideal) (k0_pay17 (k0_pay8 (iblk m c 0 t) (iblk m c 1 t)) (gr m c t) (iblk m c 4 t))
            (View.ld prev (Rect.unit ![0, 1024] ![1, 1024] inb_S1x2048_S1x1024_0_1024))⟩
        :: ⟨Rect.unit ![0, 0] ![1, 1024] inb_S1x2048_S1x1024_0_0,
          k0_pay14 (F := Ideal) (k0_pay11 (iblk m c 0 t) (iblk m c 1 t) (gl m c t) (iblk m c 3 t))
            (View.ld prev (Rect.unit ![0, 0] ![1, 1024] inb_S1x2048_S1x1024_0_0))⟩ :: L) y
      = prev y + ∑ k : Fin 256, dzg m c (ix2 (row t k) (y 1)) := by
  refine View.canon_append_of_piecesOf (fun y => prev y + ∑ k : Fin 256, dzg m c (ix2 (row t k) (y 1))) L [_, _] ⟨fun x => ?_, fun x => ?_, trivial⟩ y ?_
  · dsimp only
    pointwise [k0_pay2]
    refine congrArg₂ (· + ·) (congrArg prev ?_) (Fin.sum_fin_congr fun k =>
      dzg_right m c t (gr m c t) _ _ ?_ ?_ (gate_right m c t _ _ ?_ ?_))
    on_goal 1 =>
      funext a
      refine Fin.ext ?_
      fin_cases a
    all_goals first
      | exact rfl
      | exact Rect.idx_unit_val _ _ _ _ _
      | exact (Rect.idx_unit_val _ _ _ _ _).trans (Nat.zero_add _)
      | exact (Nat.lt_one_iff.mp (Fin.isLt _)).symm
      | (show _ = _ + 1 * _; rw [Nat.one_mul]; first | rfl | exact (Nat.zero_add _).symm)
  · dsimp only
    pointwise [k0_pay14]
    refine congrArg₂ (· + ·) (congrArg prev ?_) (Fin.sum_fin_congr fun k =>
      dzg_left m c t (gl m c t) _ _ ?_ ?_ (gate_left m c t _ _ ?_ ?_))
    on_goal 1 =>
      funext a
      refine Fin.ext ?_
      fin_cases a
    all_goals first
      | exact rfl
      | exact Rect.idx_unit_val _ _ _ _ _
      | exact (Rect.idx_unit_val _ _ _ _ _).trans (Nat.zero_add _)
      | exact (Nat.lt_one_iff.mp (Fin.isLt _)).symm
      | (show _ = _ + 1 * _; rw [Nat.one_mul]; first | rfl | exact (Nat.zero_add _).symm)
  · exact View.cover_of_tiledBy _ ![1, 1024] (by sl_kernel_rfl) y

/-- The layer input at an index of the array. -/
abbrev hin (c : Dev nD) (j : S4096x1024.Idx) : Ideal .f32 := m ((c : Thread nD τ).loc main_arg5) j

/-- The layer input's tile, as the kernel reads it. -/
theorem hin_at (c : Dev nD) (t : Fin cfg0.N) (i : S256x1024.Idx) (j : S4096x1024.Idx)
    (h0 : (j 0 : ℕ) = t.val * 256 + i 0) (h1 : (j 1 : ℕ) = i 1) : iblk m c 6 t i = hin m c j := by
  blk_point [iblk, V, idx t]

/-- One tile's part of the gates' weight gradient is added to what the block holds. -/
theorem acc12 (c : Dev nD) (t : Fin cfg0.N) (prev : Vec Ideal S2048x1024 .f32) (L) (y : S2048x1024.Idx) :
    View.canon (⟨Rect.unit ![1024, 0] ![1024, 1024] inb_S2048x1024_S1024x1024_1024_0,
          k0_pay1 (F := Ideal) (k0_pay19 (View.ld prev (Rect.unit ![1024, 0] ![1024, 1024] inb_S2048x1024_S1024x1024_1024_0)))
            (k0_pay20 (k0_pay8 (iblk m c 0 t) (iblk m c 1 t)) (gr m c t) (iblk m c 4 t) (iblk m c 6 t))⟩
        :: ⟨Rect.unit ![0, 0] ![1024, 1024] inb_S2048x1024_S1024x1024_0_0,
          k0_pay13 (F := Ideal) (k0_pay12 (iblk m c 0 t) (iblk m c 1 t) (gl m c t) (iblk m c 3 t))
            (View.ld prev (Rect.unit ![0, 0] ![1024, 1024] inb_S2048x1024_S1024x1024_0_0)) (iblk m c 6 t)⟩ :: L) y
      = prev y + ∑ k : Fin 256, dzg m c (ix2 (row t k) (y 0)) * hin m c (ix2 (row t k) (y 1)) := by
  refine View.canon_append_of_piecesOf (fun y => prev y + ∑ k : Fin 256, dzg m c (ix2 (row t k) (y 0)) * hin m c (ix2 (row t k) (y 1))) L [_, _] ⟨fun x => ?_, fun x => ?_, trivial⟩ y ?_
  · dsimp only
    pointwise [k0_pay1, k0_pay19, k0_pay20]
    refine congrArg₂ (· + ·) (congrArg prev ?_) (Fin.sum_fin_congr fun k => congrArg₂ (· * ·)
      (dzg_right m c t (gr m c t) _ _ ?_ ?_ (gate_right m c t _ _ ?_ ?_)) (hin_at m c t _ _ ?_ ?_))
    on_goal 1 =>
      funext a
      refine Fin.ext ?_
      fin_cases a
    all_goals first
      | exact rfl
      | exact Rect.idx_unit_val _ _ _ _ _
      | exact (Rect.idx_unit_val _ _ _ _ _).trans (Nat.zero_add _)
      | (show _ = _ + 1 * _; rw [Nat.one_mul]; first | rfl | exact (Nat.zero_add _).symm)
      | trace_state
  · dsimp only
    pointwise [k0_pay13, k0_pay12]
    refine congrArg₂ (· + ·) (congrArg prev ?_) (Fin.sum_fin_congr fun k => congrArg₂ (· * ·)
      (dzg_left m c t (gl m c t) _ _ ?_ ?_ (gate_left m c t _ _ ?_ ?_)) (hin_at m c t _ _ ?_ ?_))
    on_goal 1 =>
      funext a
      refine Fin.ext ?_
      fin_cases a
    all_goals first
      | exact rfl
      | exact Rect.idx_unit_val _ _ _ _ _
      | exact (Rect.idx_unit_val _ _ _ _ _).trans (Nat.zero_add _)
      | (show _ = _ + 1 * _; rw [Nat.one_mul]; first | rfl | exact (Nat.zero_add _).symm)
      | trace_state
  · exact View.cover_of_tiledBy _ ![1024, 1024] (by sl_kernel_rfl) y

/-- The output's cotangent and the mixed branches, at an index of the array. -/
abbrev ct (c : Dev nD) (j : S4096x1024.Idx) : Ideal .f32 := m ((c : Thread nD τ).loc main_arg6) j

abbrev mixed (c : Dev nD) (j : S4096x1024.Idx) : Ideal .f32 :=
  val_main_v16 (F := Ideal) (m ((c : Thread nD τ).loc main_arg0)) (m ((c : Thread nD τ).loc main_arg1)) (m ((c : Thread nD τ).loc main_arg2)) (m ((c : Thread nD τ).loc main_arg3)) j

/-- The mixed branches' array. -/
theorem mix_arr (c : Dev nD) : V m c main_v13 = val_main_v16 (F := Ideal) (m ((c : Thread nD τ).loc main_arg0)) (m ((c : Thread nD τ).loc main_arg1)) (m ((c : Thread nD τ).loc main_arg2)) (m ((c : Thread nD τ).loc main_arg3)) := rfl

/-- One tile's part of the output projection's gradient. -/
theorem acc11 (c : Dev nD) (t : Fin cfg0.N) (prev : Vec Ideal S1024x1024 .f32) (i : S1024x1024.Idx) :
    k0_pay7 (F := Ideal) (iblk m c 0 t) prev (iblk m c 5 t) i
      = prev i + ∑ k : Fin 256, mixed m c (ix2 (row t k) (i 0)) * ct m c (ix2 (row t k) (i 1)) := by
  pointwise [k0_pay7]
  refine congrArg (prev i + ·) (Fin.sum_fin_congr fun k => congrArg₂ (· * ·) ?_ ?_)
  · rw [mixed, ← mix_arr]
    blk_point [iblk, V, idx t]
    exact rfl
  · pointwise [k0_pay6]
    blk_point [iblk, V, idx t]
    exact rfl

/-- The fills of the first tile are zero. -/
theorem zero10 (j : S1x2048.Idx) : k0_pay3 (F := Ideal) j = 0 := by pointwise [k0_pay3]

theorem zero11 (j : S1024x1024.Idx) : k0_pay4 (F := Ideal) j = 0 := by pointwise [k0_pay4]

theorem zero12 (j : S2048x1024.Idx) : k0_pay5 (F := Ideal) j = 0 := by pointwise [k0_pay5]

theorem ref10 (c : Dev nD) (j : S1x2048.Idx) : val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) j
    = ∑ k : Fin 4096, dzg m c (ix2 k (j 1)) := by
  pointwise [val_main_v38, val_main_v31, val_main_v30, val_main_v29, val_main_cst_4, val_main_cst_5]
  exact Fintype.sum_unique _

theorem ref11 (c : Dev nD) (j : S1024x1024.Idx) : val_main_v19 (F := Ideal) (m ((c : Thread nD τ).loc main_arg0)) (m ((c : Thread nD τ).loc main_arg1)) (m ((c : Thread nD τ).loc main_arg2)) (m ((c : Thread nD τ).loc main_arg3)) (m ((c : Thread nD τ).loc main_arg6)) j
    = ∑ k : Fin 4096, mixed m c (ix2 k (j 0)) * ct m c (ix2 k (j 1)) := by
  pointwise [val_main_v19, val_main_v18]
  exact Fin.sum_fin_congr fun k => mul_comm _ _

theorem ref12 (c : Dev nD) (j : S2048x1024.Idx) : val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) j
    = ∑ k : Fin 4096, dzg m c (ix2 k (j 0)) * hin m c (ix2 k (j 1)) := by
  pointwise [val_main_v39, val_main_v35, val_main_v34]

theorem final10 (c : Dev nD) : (dats m 0 c).arrAt 10 (cfgs 0).N
    = val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) := by
  refine (dats m 0 c).arrAt_eq_of_covers 10 _ (by decide +kernel) fun t hf y => ?_
  blk_simp
  rw [after0_10, Pipeline.eq_sum_fin_of_reset_step_apply_of_flush (fun n h => (outsAt0 m c n h).2.2.2.1) 16 (fun _ => 0)
    (fun p j => ∑ k : Fin 256, dzg m c (ix2 (row p k) (j 1)))
    (fun t h j => by
      rw [outsAt0_A m c t h]; frame_out
      rw [View.readCov_skip, View.readCov_fill, View.readCov_fill]
      · refine (acc10 m c t (k0_pay3 (F := Ideal)) [⟨Rect.unit ![0, 0] ![1, 2048] inb_S1x2048_S1x2048_0_0, k0_pay3 (F := Ideal)⟩] j).trans ?_
        rw [zero10]
      all_goals decide)
    (fun t h j => by rw [outsAt0_B m c t h]; frame_out; exact acc10 m c t _ [] j)
    t ((flush0_10 t).mp hf) _, zero_add, ref10]
  refine Fin.sum_mul_add_congr fun s k hl => ?_
  have ht := lt_of_lt_of_eq t.isLt N_0
  have hr : (16 * (t.val / 16) + s.val) * 256 + k.val = s.val * 256 + k.val := by omega
  refine congrArg (dzg m c) (congrArg₂ ix2 (Fin.ext hr) (Fin.ext ?_))
  blk_simp [idx t]

theorem final11 (c : Dev nD) : (dats m 0 c).arrAt 11 (cfgs 0).N
    = val_main_v19 (F := Ideal) (m ((c : Thread nD τ).loc main_arg0)) (m ((c : Thread nD τ).loc main_arg1)) (m ((c : Thread nD τ).loc main_arg2)) (m ((c : Thread nD τ).loc main_arg3)) (m ((c : Thread nD τ).loc main_arg6)) := by
  refine (dats m 0 c).arrAt_eq_of_covers 11 _ (by decide +kernel) fun t hf y => ?_
  blk_simp
  rw [after0_11, Pipeline.eq_sum_fin_of_reset_step_apply_of_flush (fun n h => (outsAt0 m c n h).2.2.2.2.1) 16 (fun _ => 0)
    (fun p j => ∑ k : Fin 256, mixed m c (ix2 (row p k) (j 0)) * ct m c (ix2 (row p k) (j 1)))
    (fun t h j => by rw [outsAt0_A m c t h]; frame_out; rw [acc11, zero11])
    (fun t h j => by rw [outsAt0_B m c t h]; frame_out; rw [acc11])
    t ((flush0_11 t).mp hf) _, zero_add, ref11]
  refine Fin.sum_mul_add_congr fun s k hl => ?_
  have ht := lt_of_lt_of_eq t.isLt N_0
  have hr : (16 * (t.val / 16) + s.val) * 256 + k.val = s.val * 256 + k.val := by omega
  refine congrArg₂ (· * ·) (congrArg (mixed m c) (congrArg₂ ix2 (Fin.ext hr) (Fin.ext ?_)))
    (congrArg (ct m c) (congrArg₂ ix2 (Fin.ext hr) (Fin.ext ?_))) <;> blk_simp [idx t]

theorem final12 (c : Dev nD) : (dats m 0 c).arrAt 12 (cfgs 0).N
    = val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 12 _ (by decide +kernel) fun t hf y => ?_
  blk_simp
  rw [after0_12, Pipeline.eq_sum_fin_of_reset_step_apply_of_flush (fun n h => (outsAt0 m c n h).2.2.2.2.2) 16 (fun _ => 0)
    (fun p j => ∑ k : Fin 256, dzg m c (ix2 (row p k) (j 0)) * hin m c (ix2 (row p k) (j 1)))
    (fun t h j => by
      rw [outsAt0_A m c t h]; frame_out
      rw [View.readCov_skip, View.readCov_fill, View.readCov_fill]
      · refine (acc12 m c t (k0_pay5 (F := Ideal)) [⟨Rect.unit ![0, 0] ![2048, 1024] inb_S2048x1024_S2048x1024_0_0, k0_pay5 (F := Ideal)⟩] j).trans ?_
        rw [zero12]
      all_goals decide)
    (fun t h j => by rw [outsAt0_B m c t h]; frame_out; exact acc12 m c t _ [] j)
    t ((flush0_12 t).mp hf) _, zero_add, ref12]
  refine Fin.sum_mul_add_congr fun s k hl => ?_
  have ht := lt_of_lt_of_eq t.isLt N_0
  have hr : (16 * (t.val / 16) + s.val) * 256 + k.val = s.val * 256 + k.val := by omega
  refine congrArg₂ (· * ·) (congrArg (dzg m c) (congrArg₂ ix2 (Fin.ext hr) (Fin.ext ?_)))
    (congrArg (hin m c) (congrArg₂ ix2 (Fin.ext hr) (Fin.ext ?_))) <;> blk_simp [idx t]

end Cert.KernelIdeal.Mix

end
-- ==== Proof.DwUp.lean ====
/- The gradient of `w_up`: one product over all rows, accumulated over row tiles. -/
module

public import proofs.«01_k».proof.Proof.Gen.Kernel2Ideal.Frame
public import proofs.«01_k».proof.Proof.Gen.Reference2Ideal.Read
public import Idealize.ShloMosaic.Lib.Pipeline.ValueKit

@[expose] public section

set_option maxRecDepth 16384

noncomputable section

namespace Cert.Kernel2Ideal.DwUp

open Idealize.ShloMosaic Idealize.ShloMosaic.TcCoe Idealize.SL.Sem
open Idealize.ShloMosaic.Pipeline (Dat)
open Cert.Kernel2Ideal Cert.Kernel2Ideal.Gen
open Cert.Reference2Ideal.Read (val_main_v2 val_main_v3 val_main_v4)

variable (m : (ℓ : Loc nD τ sig) → Buf (Elt Ideal) ℓ)

/-- Every window's block index at each grid point. -/
theorem idx : ∀ t : Fin cfg0.N, win0_0.index t = ![t.val % 2, t.val / 2] ∧ win0_1.index t = ![0, 0]
    ∧ win0_2.index t = ![t.val / 2, 0] ∧ k0_off1 (grid0.coords t) = ![t.val % 2 * 2048, 0] :=
  (by decide +kernel : ∀ t : Fin grid0.N, _)

/-- The fill of the first row tile is zero. -/
theorem hzero (j : S1408x1024.Idx) : k0_pay1 (F := Ideal) j = 0 := by pointwise [k0_pay1]

/-- One row tile's contribution is added to what the block holds. -/
theorem hpay (acc : Vec Ideal S1408x1024 .f32) (a : Vec Ideal S2048x1408 .bf16) (b : Vec Ideal S2048x1024 .bf16)
    (j : S1408x1024.Idx) : k0_pay2 acc a b j = acc j + ∑ k : Fin 2048, a (ix2 k (j 0)) * b (ix2 k (j 1)) := by
  pointwise [k0_pay2]

/-- The gradient is the sum over all rows. -/
theorem href (x : (⟨S4096x1024, .f32⟩ : BufTy).Contents (Elt Ideal)) (d : (⟨S4096x5632, .f32⟩ : BufTy).Contents (Elt Ideal))
    (j : S5632x1024.Idx) :
    val_main_v4 (F := Ideal) x d j = ∑ k : Fin 4096, d (ix2 k (j 0)) * x (ix2 k (j 1)) := by
  pointwise [val_main_v2, val_main_v3, val_main_v4]

/-- The gradient array the call writes. -/
theorem final (c : Dev nD) : (dats m 0 c).arrAt 2 (cfgs 0).N
    = val_main_v4 (F := Ideal) (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 2 (fun _ => 0) _
    (fun t h j => by rw [outsAt0_A m c t h]; frame_out; rw [hpay, hzero])
    (fun t h j => by rw [outsAt0_B m c t h]; frame_out; rw [hpay])
    t ((flush0_2 t).mp hf) _, zero_add, href]
  refine Fin.sum_mul_add_congr fun s k hl => ?_
  blk_point [iblk, V, idx t, idx ⟨_, Pipeline.run_point_lt_of_flush t ((flush0_2 t).mp hf) s⟩]

end Cert.Kernel2Ideal.DwUp

end
-- ==== Proof.DwDown.lean ====
/- The gradient of `w_down`: one product over all rows, accumulated over row tiles. -/
module

public import proofs.«01_k».proof.Proof.Gen.Kernel3Ideal.Frame
public import proofs.«01_k».proof.Proof.Gen.Reference3Ideal.Read
public import Idealize.ShloMosaic.Lib.Pipeline.ValueKit

@[expose] public section

set_option maxRecDepth 16384

noncomputable section

namespace Cert.Kernel3Ideal.DwDown

open Idealize.ShloMosaic Idealize.ShloMosaic.TcCoe Idealize.SL.Sem
open Idealize.ShloMosaic.Pipeline (Dat)
open Cert.Kernel3Ideal Cert.Kernel3Ideal.Gen
open Cert.Reference3Ideal.Read (val_main_v2 val_main_v3)

variable (m : (ℓ : Loc nD τ sig) → Buf (Elt Ideal) ℓ)

/-- Every window's block index at each grid point. -/
theorem idx : ∀ t : Fin cfg0.N, win0_0.index t = ![t.val % 2, t.val / 2] ∧ win0_1.index t = ![0, 0]
    ∧ win0_2.index t = ![t.val / 2, 0] ∧ k0_off1 (grid0.coords t) = ![t.val % 2 * 2048, 0] :=
  (by decide +kernel : ∀ t : Fin grid0.N, _)

/-- The fill of the first row tile is zero. -/
theorem hzero (j : S1408x1024.Idx) : k0_pay1 (F := Ideal) j = 0 := by pointwise [k0_pay1]

/-- One row tile's contribution is added to what the block holds. -/
theorem hpay (acc : Vec Ideal S1408x1024 .f32) (a : Vec Ideal S2048x1408 .bf16) (b : Vec Ideal S2048x1024 .bf16)
    (j : S1408x1024.Idx) : k0_pay2 acc a b j = acc j + ∑ k : Fin 2048, a (ix2 k (j 0)) * b (ix2 k (j 1)) := by
  pointwise [k0_pay2]

/-- The gradient is the sum over all rows. -/
theorem href (x : (⟨S4096x2816, .f32⟩ : BufTy).Contents (Elt Ideal)) (d : (⟨S4096x1024, .f32⟩ : BufTy).Contents (Elt Ideal))
    (j : S2816x1024.Idx) :
    val_main_v3 (F := Ideal) x d j = ∑ k : Fin 4096, x (ix2 k (j 0)) * d (ix2 k (j 1)) := by
  pointwise [val_main_v2, val_main_v3]
  exact Finset.sum_congr rfl fun k _ => mul_comm _ _

/-- The gradient array the call writes. -/
theorem final (c : Dev nD) : (dats m 0 c).arrAt 2 (cfgs 0).N
    = val_main_v3 (F := Ideal) (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 2 (fun _ => 0) _
    (fun t h j => by rw [outsAt0_A m c t h]; frame_out; rw [hpay, hzero])
    (fun t h j => by rw [outsAt0_B m c t h]; frame_out; rw [hpay])
    t ((flush0_2 t).mp hf) _, zero_add, href]
  refine Fin.sum_mul_add_congr fun s k hl => ?_
  blk_point [iblk, V, idx t, idx ⟨_, Pipeline.run_point_lt_of_flush t ((flush0_2 t).mp hf) s⟩]

end Cert.Kernel3Ideal.DwDown

end
-- ==== Proof.InFwd.lean ====
/- The forward input projection: the normalised rows, their product with `w_in` cut into its parts, and the gates. -/
module

public import proofs.«01_k».proof.Proof.Gen.Kernel4Ideal.Frame
public import proofs.«01_k».proof.Proof.Gen.Reference4Ideal.Read
public import Idealize.ShloMosaic.Lib.Pipeline.ValueKit

@[expose] public section

set_option maxRecDepth 16384

noncomputable section

namespace Cert.Kernel4Ideal.InFwd

open Idealize.ShloMosaic Idealize.ShloMosaic.TcCoe Idealize.SL.Sem
open Idealize.ShloMosaic.Pipeline (Dat)
open Cert.Kernel4Ideal Cert.Kernel4Ideal.Gen
open Cert.Reference4Ideal.Read

variable (m : (ℓ : Loc nD τ sig) → Buf (Elt Ideal) ℓ)

/-- Every window's block index at each grid point. -/
theorem idx : ∀ t : Fin cfg0.N, win0_0.index t = ![t.val, 0] ∧ win0_1.index t = ![0, 0]
    ∧ win0_2.index t = ![0, 0] ∧ win0_3.index t = ![0, 0] ∧ win0_4.index t = ![t.val, 0]
    ∧ win0_5.index t = ![t.val, 0] ∧ win0_6.index t = ![t.val, 0] ∧ win0_7.index t = ![t.val, 0]
    ∧ win0_8.index t = ![t.val, 0] :=
  (by decide +kernel : ∀ t : Fin grid0.N, _)

/-- A normalised row of the tile is the normalised row of the array. -/
theorem norm_row (c : Dev nD) (t : Fin cfg0.N) (i : S512x1024.Idx) (j : S4096x1024.Idx)
    (h0 : (j 0 : ℕ) = t.val * 512 + i 0) (h1 : (j 1 : ℕ) = i 1) :
    k0_pay2 (F := Ideal) (iblk m c 0 t) (iblk m c 1 t) i
      = val_main_v12 (F := Ideal) (m ((c : Thread nD τ).loc main_arg0)) (m ((c : Thread nD τ).loc main_arg1)) j := by
  pointwise [k0_pay2, val_main_v0, val_main_cst, val_main_v1, val_main_v2, val_main_cst_0, val_main_v3, val_main_v4,
    val_main_cst_1, val_main_v5, val_main_v6, val_main_v7, val_main_v8, val_main_v9, val_main_v10, val_main_v11, val_main_v12]
  blk_point [iblk, V, idx t]

/-- The normalised rows. -/
theorem final4 (c : Dev nD) : (dats m 0 c).arrAt 4 (cfgs 0).N
    = val_main_v24 (F := Ideal) (m ((c : Thread nD τ).loc main_arg0)) (m ((c : Thread nD τ).loc main_arg1)) := by
  refine (dats m 0 c).arrAt_eq_of_covers 4 _ (by decide +kernel) fun t _ y => ?_
  blk_simp
  rw [after0_4]; frame_out
  refine norm_row m c t y _ ?_ ?_ <;> (blk_simp [idx t] <;> try omega)

/-- The pooled branch's channels. -/
theorem final5 (c : Dev nD) : (dats m 0 c).arrAt 5 (cfgs 0).N
    = val_main_v25 (F := Ideal) (m ((c : Thread nD τ).loc main_arg0)) (m ((c : Thread nD τ).loc main_arg1))
        (m ((c : Thread nD τ).loc main_arg2)) := by
  refine (dats m 0 c).arrAt_eq_of_covers 5 _ (by decide +kernel) fun t _ y => ?_
  blk_simp
  rw [after0_5]; frame_out
  pointwise [k0_pay3, val_main_v13, val_main_v25]
  refine Fin.sum_fin_congr fun k => congrArg₂ (· * ·) (norm_row m c t _ _ ?_ ?_) ?_
  · blk_simp [idx t] <;> try omega
  · blk_simp [idx t] <;> try omega
  · blk_point [iblk, V, idx t]

/-- The queries. -/
theorem final6 (c : Dev nD) : (dats m 0 c).arrAt 6 (cfgs 0).N
    = val_main_v26 (F := Ideal) (m ((c : Thread nD τ).loc main_arg0)) (m ((c : Thread nD τ).loc main_arg1))
        (m ((c : Thread nD τ).loc main_arg2)) := by
  refine (dats m 0 c).arrAt_eq_of_covers 6 _ (by decide +kernel) fun t _ y => ?_
  blk_simp
  rw [after0_6]; frame_out
  pointwise [k0_pay4, val_main_v13, val_main_v26]
  refine Fin.sum_fin_congr fun k => congrArg₂ (· * ·) (norm_row m c t _ _ ?_ ?_) ?_
  · blk_simp [idx t] <;> try omega
  · blk_simp [idx t] <;> try omega
  · blk_point [iblk, V, idx t]

/-- The keys and values. -/
theorem final7 (c : Dev nD) : (dats m 0 c).arrAt 7 (cfgs 0).N
    = val_main_v27 (F := Ideal) (m ((c : Thread nD τ).loc main_arg0)) (m ((c : Thread nD τ).loc main_arg1))
        (m ((c : Thread nD τ).loc main_arg2)) := by
  refine (dats m 0 c).arrAt_eq_of_covers 7 _ (by decide +kernel) fun t _ y => ?_
  blk_simp
  rw [after0_7]; frame_out
  pointwise [k0_pay5, val_main_v13, val_main_v27]
  refine Fin.sum_fin_congr fun k => congrArg₂ (· * ·) (norm_row m c t _ _ ?_ ?_) ?_
  · blk_simp [idx t] <;> try omega
  · blk_simp [idx t] <;> try omega
  · blk_point [iblk, V, idx t]

/-- The gates. -/
theorem final8 (c : Dev nD) : (dats m 0 c).arrAt 8 (cfgs 0).N
    = val_main_v23 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 8 _ (by decide +kernel) fun t _ y => ?_
  blk_simp
  rw [after0_8]; frame_out
  pointwise [k0_pay1, val_main_v13, val_main_v14, val_main_v15, val_main_v16, val_main_v17, val_main_v18, val_main_v19,
    val_main_cst_2, val_main_v20, val_main_v21, val_main_cst_3, val_main_v22, val_main_v23]
  refine congrArg Ideal.logistic (congrArg₂ (· + ·)
    (Fin.sum_fin_congr fun k => congrArg₂ (· * ·) (norm_row m c t _ _ ?_ ?_) ?_) ?_)
  · blk_simp [idx t] <;> try omega
  · blk_simp [idx t] <;> try omega
  · blk_point [iblk, V, idx t]
  · blk_point [iblk, V, idx t]

end Cert.Kernel4Ideal.InFwd

end
-- ==== Proof.MixOut.lean ====
/- The forward mix: the gated sum of the two branches and its product with `w_out`, row tile by row tile. -/
module

public import proofs.«01_k».proof.Proof.Gen.Kernel5Ideal.Frame
public import proofs.«01_k».proof.Proof.Gen.Reference5Ideal.Read
public import Idealize.ShloMosaic.Lib.Pipeline.ValueKit

@[expose] public section

set_option maxRecDepth 16384

noncomputable section

namespace Cert.Kernel5Ideal.MixOut

open Idealize.ShloMosaic Idealize.ShloMosaic.TcCoe Idealize.SL.Sem
open Idealize.ShloMosaic.Pipeline (Dat)
open Cert.Kernel5Ideal Cert.Kernel5Ideal.Gen
open Cert.Reference5Ideal.Read (val_main_v0 val_main_v1 val_main_v2 val_main_v3 val_main_v4 val_main_v5 val_main_v6 val_main_v7)

variable (m : (ℓ : Loc nD τ sig) → Buf (Elt Ideal) ℓ)

/-- Every window's block index at each grid point. -/
theorem idx : ∀ t : Fin cfg0.N, win0_0.index t = ![t.val, 0] ∧ win0_1.index t = ![t.val, 0]
    ∧ win0_2.index t = ![t.val, 0] ∧ win0_3.index t = ![t.val, 0] ∧ win0_4.index t = ![0, 0]
    ∧ win0_5.index t = ![t.val, 0] ∧ win0_6.index t = ![t.val, 0] :=
  (by decide +kernel : ∀ t : Fin grid0.N, _)

/-- The residual stream after the first sub-layer. -/
theorem final5 (c : Dev nD) : (dats m 0 c).arrAt 5 (cfgs 0).N
    = val_main_v6 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]; frame_out
  pointwise [k0_pay1, k0_pay2, val_main_v0, val_main_v1, val_main_v2, val_main_v3, val_main_v4, val_main_v5, val_main_v6]
  blk_point [iblk, V, idx t]

/-- The gated sum itself. -/
theorem final6 (c : Dev nD) : (dats m 0 c).arrAt 6 (cfgs 0).N
    = val_main_v7 (F := Ideal) (m ((c : Thread nD τ).loc main_arg1))
        (m ((c : Thread nD τ).loc main_arg2)) (m ((c : Thread nD τ).loc main_arg3)) := by
  refine (dats m 0 c).arrAt_eq_of_covers 6 _ (by decide +kernel) fun t _ y => ?_
  blk_simp
  rw [after0_6]; frame_out
  pointwise [k0_pay1, val_main_v0, val_main_v1, val_main_v2, val_main_v3, val_main_v4, val_main_v7]
  blk_point [iblk, V, idx t]

end Cert.Kernel5Ideal.MixOut

end
-- ==== Proof.Rms.lean ====
/- The backward of a root-mean-square norm as extended reals: the factored form of the row's derivative against the chain
   rule through the square, the mean and the reciprocal root. -/
module

public import Idealize.ShloMosaic.Lib.Pipeline.ValueKit
public import Idealize.ShloMosaic.Lib.IdealHost

@[expose] public section

noncomputable section

namespace Cert.Rms

open Idealize.ShloMosaic

/-- Past a positive number the reciprocal root is a real `r`, not negative, and dividing it by that number once more
    cubes it; at infinity both are zero. -/
theorem rsqrt_real {a : EReal} (ha : 0 < a) :
    ∃ r : ℝ, 0 ≤ r ∧ Ideal.rsqrt a = (r : EReal) ∧ Ideal.div (Ideal.rsqrt a) a = ((r * r * r : ℝ) : EReal) := by
  induction a using EReal.rec with
  | bot => exact absurd ha (by simp)
  | top => exact ⟨0, le_rfl, by simp, by simp [Ideal.div]⟩
  | coe a =>
    have ha' : 0 < a := by exact_mod_cast ha
    refine ⟨(Real.sqrt a)⁻¹, inv_nonneg.mpr (Real.sqrt_nonneg a), ?_, ?_⟩
    · rw [Ideal.rsqrt_coe, if_neg ha'.not_gt, if_neg ha'.ne']
    · rw [Ideal.rsqrt_coe, if_neg ha'.not_gt, if_neg ha'.ne', Ideal.div, if_neg (by exact_mod_cast ha'.ne'),
        ← EReal.coe_inv, ← EReal.coe_mul]
      congr 1
      rw [mul_assoc (Real.sqrt a)⁻¹, ← mul_inv (Real.sqrt a) (Real.sqrt a), Real.mul_self_sqrt ha'.le]

/-- A real factor that is not negative comes out of a sum of extended reals. -/
theorem sum_mul_real {ι : Type*} (s : Finset ι) (f : ι → EReal) (r : ℝ) (hr : 0 ≤ r) :
    ∑ k ∈ s, f k * (r : EReal) = (∑ k ∈ s, f k) * (r : EReal) := by
  classical
  induction s using Finset.induction_on with
  | empty => simp
  | insert a s ha ih =>
    rw [Finset.sum_insert ha, Finset.sum_insert ha, ih,
      EReal.right_distrib_of_nonneg_of_ne_top (by exact_mod_cast hr) (EReal.coe_ne_top r)]

/-- Twice the product with a negated half. -/
theorem twice_neg_half (w : EReal) (q : ℝ) (hq : 0 ≤ q) :
    w * ((-(q / 2) : ℝ) : EReal) + w * ((-(q / 2) : ℝ) : EReal) = -(w * (q : EReal)) := by
  have h2 : (0 : EReal) ≤ ((q / 2 : ℝ) : EReal) := by exact_mod_cast div_nonneg hq (by norm_num)
  rw [EReal.coe_neg, mul_neg, ← neg_mul, ← EReal.left_distrib_of_nonneg h2 h2, ← EReal.coe_add, add_halves, neg_mul]

/-- A mean of squares with a positive guard is positive. -/
theorem guarded_pos {ι : Type*} (s : Finset ι) (X : ι → EReal) (n : ℝ) (hn : 0 < n) {e : EReal} (he : 0 < e) :
    0 < Ideal.div (∑ k ∈ s, X k * X k) (n : EReal) + e := by
  have hn0 : ((n : ℝ) : EReal) ≠ 0 := by exact_mod_cast hn.ne'
  have hs : 0 ≤ ∑ k ∈ s, X k * X k := Finset.sum_nonneg fun k _ => by
    rcases le_total 0 (X k) with h | h
    · exact mul_nonneg h h
    · rw [← neg_mul_neg]; exact mul_nonneg (EReal.neg_nonneg.mpr h) (EReal.neg_nonneg.mpr h)
  rw [Ideal.div, if_neg hn0]
  exact lt_of_lt_of_le he (le_add_of_nonneg_left
    (mul_nonneg hs (EReal.inv_nonneg_of_nonneg (by exact_mod_cast hn.le))))

/-- The derivative of one element of a root-mean-square norm: `p` is what joins it, `e` the output's derivative times the
    gain, `x` the input, `a` the mean square with its guard, `n` the row's length. -/
theorem bwd {ι : Type*} (s : Finset ι) (X D : ι → EReal) (p x e a : EReal) (n : ℝ) (hn : 0 < n) (ha : 0 < a) :
    p + Ideal.rsqrt a * (e - x * Ideal.rsqrt a * Ideal.div (∑ k ∈ s, D k * (X k * Ideal.rsqrt a)) (n : EReal))
      = p + e * Ideal.rsqrt a
          + x * Ideal.div ((∑ k ∈ s, X k * D k) * (((-(1 / 2) : ℝ) : EReal) * Ideal.div (Ideal.rsqrt a) a)) (n : EReal)
          + Ideal.div ((∑ k ∈ s, X k * D k) * (((-(1 / 2) : ℝ) : EReal) * Ideal.div (Ideal.rsqrt a) a)) (n : EReal) * x := by
  obtain ⟨r, hr, h1, h2⟩ := rsqrt_real ha
  rw [h2, h1]
  have hn0 : ((n : ℝ) : EReal) ≠ 0 := by exact_mod_cast hn.ne'
  have hr' : (0 : EReal) ≤ (r : EReal) := by exact_mod_cast hr
  have hS : ∑ k ∈ s, D k * (X k * (r : EReal)) = (∑ k ∈ s, X k * D k) * (r : EReal) := by
    rw [← sum_mul_real s _ r hr]
    exact Finset.sum_congr rfl fun k _ => by rw [← mul_assoc, mul_comm (D k)]
  rw [hS]
  generalize (∑ k ∈ s, X k * D k) = S
  have hq : 0 ≤ r * r * r / n := div_nonneg (mul_nonneg (mul_nonneg hr hr) hr) hn.le
  have e1 : (r : EReal) * (x * (r : EReal) * Ideal.div (S * (r : EReal)) (n : EReal))
      = x * S * ((r * r * r / n : ℝ) : EReal) := by
    rw [Ideal.div, if_neg hn0, ← EReal.coe_inv]
    rw [show ((r * r * r / n : ℝ) : EReal) = (r : EReal) * r * r * ((n⁻¹ : ℝ) : EReal) by
      rw [← EReal.coe_mul, ← EReal.coe_mul, ← EReal.coe_mul]; rfl]
    ac_rfl
  have e2 : x * Ideal.div (S * (((-(1 / 2) : ℝ) : EReal) * ((r * r * r : ℝ) : EReal))) (n : EReal)
      = x * S * ((-(r * r * r / n / 2) : ℝ) : EReal) := by
    rw [Ideal.div, if_neg hn0, ← EReal.coe_inv, ← EReal.coe_mul, mul_assoc S, ← EReal.coe_mul, ← mul_assoc]
    congr 2
    rw [div_eq_mul_inv (r * r * r)]; ring
  rw [sub_eq_add_neg, EReal.left_distrib_of_nonneg_of_ne_top hr' (EReal.coe_ne_top r), mul_neg, e1, mul_comm _ x, e2,
    add_assoc (p + _), twice_neg_half _ _ hq, mul_comm (r : EReal) e, add_assoc]

end Cert.Rms

end
-- ==== Proof.InBwd.lean ====
/- The backward of the input projection and of the norm before it: row tile by row tile the derivative of the residual
   stream, and the derivative of the norm's gain summed over all rows. -/
module

public import proofs.«01_k».proof.Proof.Gen.Kernel6Ideal.Frame
public import proofs.«01_k».proof.Proof.Gen.Reference6Ideal.Read
public import proofs.«01_k».proof.Proof.Rms
public import Idealize.ShloMosaic.Lib.Pipeline.ValueKit
public import Idealize.ShloMosaic.Lib.Pipeline.ReadBack

@[expose] public section

set_option maxRecDepth 16384

noncomputable section

namespace Cert.Kernel6Ideal.InBwd

open Idealize.ShloMosaic Idealize.ShloMosaic.TcCoe Idealize.SL.Sem
open Idealize.ShloMosaic.Pipeline (Dat)
open Cert.Kernel6Ideal Cert.Kernel6Ideal.Gen
open Cert.Reference6Ideal.Read

variable (m : (ℓ : Loc nD τ sig) → Buf (Elt Ideal) ℓ)

/-- Every window's block index at each grid point. -/
theorem idx : ∀ t : Fin cfg0.N, win0_0.index t = ![t.val, 0] ∧ win0_1.index t = ![t.val, 0]
    ∧ win0_2.index t = ![t.val, 0] ∧ win0_3.index t = ![t.val, 0] ∧ win0_4.index t = ![0, 0]
    ∧ win0_5.index t = ![t.val, 0] ∧ win0_6.index t = ![0, 0] ∧ win0_7.index t = ![t.val, 0]
    ∧ win0_8.index t = ![t.val, 0] ∧ win0_9.index t = ![0, 0] :=
  (by decide +kernel : ∀ t : Fin grid0.N, _)

/-- The f32 pattern of 1024. -/
theorem lit_1024 : Ideal.ofBits .f32 0x44800000#32 = ((1024 : ℝ) : EReal) := by
  simp [Ideal.ofBits, Ideal.ieee, -EReal.coe_mul]; norm_num

/-- The f32 pattern of minus one half. -/
theorem lit_neg_half : Ideal.ofBits .f32 0xBF000000#32 = ((-(1 / 2) : ℝ) : EReal) := by
  simp [Ideal.ofBits, Ideal.ieee, -EReal.coe_mul, -EReal.coe_neg]; norm_num

/-- The guard under the root is positive. -/
theorem lit_eps_pos : 0 < Ideal.ofBits .f32 0x358637BD#32 := by
  simp [Ideal.ofBits, Ideal.ieee, -EReal.coe_mul]

/-- A sum over the projection's columns is the sum over its four pieces. -/
theorem sum_pieces (f : Fin 4352 → EReal) :
    ∑ k : Fin 4352, f k = (∑ k : Fin 1024, f ⟨k, by omega⟩) + (∑ k : Fin 1024, f ⟨1024 + k, by omega⟩)
      + (∑ k : Fin 256, f ⟨2048 + k, by omega⟩) + ∑ k : Fin 2048, f ⟨2304 + k, by omega⟩ := by
  have h1 := Fin.sum_univ_add (a := 2304) (b := 2048) f
  have h2 := Fin.sum_univ_add (a := 2048) (b := 256) fun k : Fin 2304 => f ⟨k, by omega⟩
  have h3 := Fin.sum_univ_add (a := 1024) (b := 1024) fun k : Fin 2048 => f ⟨k, by omega⟩
  refine h1.trans (congrArg (· + _) (h2.trans (congrArg (· + _) h3)))

/-- The derivative of the normed rows the tile computes. -/
def dht (c : Dev nD) (t : Fin cfg0.N) : FVec Ideal S512x1024 .f32 :=
  k0_pay6 (F := Ideal) (iblk m c 0 t) (View.ld (iblk m c 4 t) (Rect.unit ![0, 0] ![1024, 1024] inb_S4352x1024_S1024x1024_0_0))
    (iblk m c 1 t) (View.ld (iblk m c 4 t) (Rect.unit ![1024, 0] ![1024, 1024] inb_S4352x1024_S1024x1024_1024_0))
    (iblk m c 2 t) (View.ld (iblk m c 4 t) (Rect.unit ![2048, 0] ![256, 1024] inb_S4352x1024_S256x1024_2048_0))
    (iblk m c 3 t) (View.ld (iblk m c 4 t) (Rect.unit ![2304, 0] ![2048, 1024] inb_S4352x1024_S2048x1024_2304_0))

/-- The derivative of the normed rows. -/
abbrev dh (c : Dev nD) : S4096x1024.Idx → EReal :=
  val_main_v17 (F := Ideal) (m ((c : Thread nD τ).loc main_arg2)) (m ((c : Thread nD τ).loc main_arg3))

/-- The tile's four products are the pieces of the one over all columns. -/
theorem dh_at (c : Dev nD) (t : Fin cfg0.N) (i : S512x1024.Idx) (j : S4096x1024.Idx)
    (h0 : (j 0 : ℕ) = t.val * 512 + i 0) (h1 : (j 1 : ℕ) = i 1) : dht m c t i = dh m c j := by
  unfold dht dh
  pointwise [k0_pay6, val_main_v17]
  rw [sum_pieces]
  refine congrArg₂ (· + ·) (congrArg₂ (· + ·) (congrArg₂ (· + ·) ?_ ?_) ?_) ?_ <;>
    refine Fin.sum_fin_congr fun k => congrArg₂ (· * ·) ?_ ?_
  all_goals blk_point [iblk, V, idx t]

/-- The residual stream, the gain and the derivative that joins the row's own. -/
abbrev xs (c : Dev nD) : S4096x1024.Idx → EReal := m ((c : Thread nD τ).loc main_arg0)
abbrev gain (c : Dev nD) : S1024.Idx → EReal := m ((c : Thread nD τ).loc main_arg1)
abbrev dx1 (c : Dev nD) : S4096x1024.Idx → EReal := m ((c : Thread nD τ).loc main_arg4)

/-- A row's mean square with its guard. -/
def ms (c : Dev nD) (r : Fin 4096) : EReal :=
  Ideal.div (∑ l : Fin 1024, xs m c (ix2 r l) * xs m c (ix2 r l)) (Ideal.ofBits .f32 0x44800000#32)
    + Ideal.ofBits .f32 0x358637BD#32

/-- The guarded mean square is positive whatever the row holds. -/
theorem ms_pos (c : Dev nD) (r : Fin 4096) : 0 < ms m c r := by
  unfold ms
  rw [lit_1024]
  exact Rms.guarded_pos _ (fun l : Fin 1024 => xs m c (ix2 r l)) 1024 (by norm_num) lit_eps_pos

/-- The reference's derivative of one element. -/
theorem ref38 (c : Dev nD) (j : S4096x1024.Idx) : val_main_v38 (F := Ideal) (m ((c : Thread nD τ).loc main_arg0))
      (m ((c : Thread nD τ).loc main_arg1)) (m ((c : Thread nD τ).loc main_arg2)) (m ((c : Thread nD τ).loc main_arg3))
      (m ((c : Thread nD τ).loc main_arg4)) j
    = dx1 m c j + Ideal.rsqrt (ms m c (j 0)) * (dh m c j * gain m c (ix1 (j 1)) - xs m c j * Ideal.rsqrt (ms m c (j 0))
        * Ideal.div (∑ k : Fin 1024, dh m c (ix2 (j 0) k) * gain m c (ix1 k) * (xs m c (ix2 (j 0) k) * Ideal.rsqrt (ms m c (j 0))))
          (Ideal.ofBits .f32 0x44800000#32)) := by
  pointwise [val_main_v38, val_main_v37, val_main_v36, val_main_v35, val_main_v34, val_main_v33, val_main_cst_7, val_main_v32,
    val_main_v31, val_main_cst_6, val_main_v30, val_main_v29, val_main_v28, val_main_v27, val_main_v26, val_main_v25,
    val_main_cst_5, val_main_v24, val_main_v22, val_main_v21, val_main_v13, val_main_v10, val_main_v9, val_main_cst_2,
    val_main_v8, val_main_v7, val_main_v6, val_main_v5, val_main_cst_1, val_main_v4, val_main_v3, val_main_cst_0,
    val_main_v2, val_main_v1, val_main_cst, val_main_v0]
  have h := Rms.bwd Finset.univ (fun k : Fin 1024 => xs m c (ix2 (j 0) k))
    (fun k => dh m c (ix2 (j 0) k) * gain m c (ix1 k)) (dx1 m c j) (xs m c j) (dh m c j * gain m c (ix1 (j 1)))
    (ms m c (j 0)) 1024 (by norm_num) (ms_pos m c _)
  rw [← lit_1024, ← lit_neg_half] at h
  refine Eq.trans ?_ h.symm
  refine congrArg₂ (fun a b : EReal => a + b)
    (congrArg (fun a : EReal => (_ : EReal) + (_ : EReal) * a) (Fintype.sum_unique _))
    (congrArg (fun a : EReal => a * (_ : EReal)) (Fintype.sum_unique _))

/-- What the tile stores. -/
theorem pay4_at (c : Dev nD) (t : Fin cfg0.N) (i : S512x1024.Idx) (j : S4096x1024.Idx)
    (h0 : (j 0 : ℕ) = t.val * 512 + i 0) (h1 : (j 1 : ℕ) = i 1) :
    k0_pay4 (F := Ideal) (dht m c t) (iblk m c 5 t) (k0_pay7 (iblk m c 5 t)) (iblk m c 6 t) (iblk m c 7 t) i
    = dx1 m c j + Ideal.rsqrt (ms m c (j 0)) * (dh m c j * gain m c (ix1 (j 1)) - xs m c j * Ideal.rsqrt (ms m c (j 0))
        * Ideal.div (∑ k : Fin 1024, dh m c (ix2 (j 0) k) * gain m c (ix1 k) * (xs m c (ix2 (j 0) k) * Ideal.rsqrt (ms m c (j 0))))
          (Ideal.ofBits .f32 0x44800000#32)) := by
  have hx : ∀ k, iblk m c 5 t (ix2 (i 0) k) = xs m c (ix2 (j 0) k) := fun k => by blk_point [iblk, V, idx t]
  have hx' : iblk m c 5 t i = xs m c j := by blk_point [iblk, V, idx t]
  have hd : ∀ k, dht m c t (ix2 (i 0) k) = dh m c (ix2 (j 0) k) := fun k => dh_at m c t _ _ h0 rfl
  have hg : ∀ k, iblk m c 6 t (ix2 0 k) = gain m c (ix1 k) := fun k => by blk_point [iblk, V, idx t]
  have hj : iblk m c 6 t (ix2 0 (i 1)) = gain m c (ix1 (j 1)) := by blk_point [iblk, V, idx t]
  have hp : iblk m c 7 t i = dx1 m c j := by blk_point [iblk, V, idx t]
  pointwise [k0_pay4, k0_pay7, k0_pay2, k0_pay1]
  simp only [hj, hx, hx', hd, hg, hp, dh_at m c t i j h0 h1]
  rfl

theorem final8 (c : Dev nD) : (dats m 0 c).arrAt 8 (cfgs 0).N
    = val_main_v38 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 8 _ (by decide +kernel) fun t _ y => ?_
  blk_simp
  rw [after0_8, ref38]
  rcases Classical.em (t.val % 8 = 0) with h | h
  · rw [outsAt0_A m c t h]; frame_out
    refine pay4_at m c t y _ ?_ ?_ <;> (blk_simp [idx t] <;> try omega)
  · rw [outsAt0_B m c t h]; frame_out
    refine pay4_at m c t y _ ?_ ?_ <;> (blk_simp [idx t] <;> try omega)

/-- Row `k` of the tile at `p`. -/
def row (p : Fin cfg0.N) (k : Fin 512) : Fin 4096 :=
  ⟨p.val * 512 + k.val, by have := lt_of_lt_of_eq p.isLt N_0; omega⟩

/-- One element's part in the gain's derivative. -/
def gterm (c : Dev nD) (j : S4096x1024.Idx) : EReal :=
  dh m c j * (xs m c j * Ideal.rsqrt (ms m c (j 0)))

/-- The tile's rows are added to what the block holds. -/
theorem pay3_at (c : Dev nD) (t : Fin cfg0.N) (acc : Vec Ideal S1x1024 .f32) (j : S1x1024.Idx) :
    k0_pay3 (F := Ideal) (dht m c t) (iblk m c 5 t) (k0_pay7 (iblk m c 5 t)) acc j
      = acc j + ∑ k : Fin 512, gterm m c (ix2 (row t k) (j 1)) := by
  have hx : ∀ k l, iblk m c 5 t (ix2 k l) = xs m c (ix2 (row t k) l) := fun k l => by blk_point [iblk, V, idx t, row]
  have hx' : ∀ k, iblk m c 5 t (ix2 k (j 1)) = xs m c (ix2 (row t k) (j 1)) := fun k => hx k (j 1)
  have hd' : ∀ k, dht m c t (ix2 k (j 1)) = dh m c (ix2 (row t k) (j 1)) := fun k => dh_at m c t _ _ rfl rfl
  pointwise [k0_pay3, k0_pay7, k0_pay2, k0_pay1]
  simp only [hx, hx', hd']
  rfl

/-- The fill of the first tile is zero. -/
theorem zero (j : S1x1024.Idx) : k0_pay5 (F := Ideal) j = 0 := by pointwise [k0_pay5]

/-- The gain's derivative is the sum over all rows. -/
theorem ref39 (c : Dev nD) (j : S1x1024.Idx) : val_main_v39 (F := Ideal) (m ((c : Thread nD τ).loc main_arg0))
      (m ((c : Thread nD τ).loc main_arg2)) (m ((c : Thread nD τ).loc main_arg3)) j
    = ∑ k : Fin 4096, gterm m c (ix2 k (j 1)) := by
  have hr : ∀ k, val_main_v7 (F := Ideal) (m ((c : Thread nD τ).loc main_arg0)) (ix2 k 0) = Ideal.rsqrt (ms m c k) := fun k => by
    pointwise [val_main_v7, val_main_v6, val_main_v5, val_main_cst_1, val_main_v4, val_main_v3, val_main_cst_0,
      val_main_v2, val_main_v1, val_main_cst, val_main_v0]
    rfl
  pointwise [val_main_v39, val_main_v23, val_main_cst_4, val_main_v20, val_main_v19, val_main_cst_3, val_main_v18,
    val_main_v12, val_main_v11]
  refine (Fintype.sum_unique _).trans (Finset.sum_congr rfl fun k _ => ?_)
  rw [hr, mul_comm]
  rfl

theorem final9 (c : Dev nD) : (dats m 0 c).arrAt 9 (cfgs 0).N
    = val_main_v39 (F := Ideal) (m ((c : Thread nD τ).loc main_arg0))
        (m ((c : Thread nD τ).loc main_arg2)) (m ((c : Thread nD τ).loc main_arg3)) := by
  refine (dats m 0 c).arrAt_eq_of_covers 9 _ (by decide +kernel) fun t hf y => ?_
  blk_simp
  rw [after0_9, Pipeline.eq_sum_fin_of_reset_step_apply_of_flush (fun n h => (outsAt0 m c n h).2) 8 (fun _ => 0)
    (fun p j => ∑ k : Fin 512, gterm m c (ix2 (row p k) (j 1)))
    (fun t h j => by rw [outsAt0_A m c t h]; frame_out; exact (pay3_at m c t _ j).trans (by rw [zero]))
    (fun t h j => by rw [outsAt0_B m c t h]; frame_out; exact pay3_at m c t _ j)
    t ((flush0_9 t).mp hf) _, zero_add, ref39]
  refine Fin.sum_mul_add_congr fun s k hl => ?_
  have ht := lt_of_lt_of_eq t.isLt N_0
  have hr : (8 * (t.val / 8) + s.val) * 512 + k.val = s.val * 512 + k.val := by omega
  refine congrArg (gterm m c) (congrArg₂ ix2 (Fin.ext hr) (Fin.ext ?_))
  blk_simp [idx t]

end Cert.Kernel6Ideal.InBwd

end
-- ==== Proof.Laid.lean ====
/- The layout of a tile's rows that puts the eight sublanes side by side, as a matrix of zeros and ones, and what a
   product with that matrix is as extended reals. -/
module

public import Idealize.ShloMosaic.Lib.Pipeline.ValueKit
public import Idealize.ShloMosaic.Lib.IdealHost

@[expose] public section

noncomputable section

set_option maxRecDepth 16384

namespace Cert.Laid

open Idealize.ShloMosaic

/-- The time row, within its tile, that the laid row `p` holds. -/
def at8 (p : Fin 256) : Fin 256 := ⟨32 * (p.val % 8) + p.val / 8, by omega⟩

/-- The laid row that holds the time row `r`. -/
def back (r : Fin 256) : Fin 256 := ⟨8 * (r.val % 32) + r.val / 32, by omega⟩

theorem at8_back (r : Fin 256) : at8 (back r) = r := Fin.ext (by simp only [at8, back]; omega)

theorem back_at8 (p : Fin 256) : back (at8 p) = p := Fin.ext (by simp only [at8, back]; omega)

/-- The word that names the time row the laid row `p` holds. -/
theorem word : ∀ p : Fin 256, IntOp.addi (IntOp.shli .host (IntOp.andi (BitVec.ofNat 32 p.val) 7#32) 5#32)
    (IntOp.shrui .host (BitVec.ofNat 32 p.val) 3#32) = BitVec.ofNat 32 (at8 p).val := by
  decide +kernel

/-- The matrix's entry: one where the word names the row, zero elsewhere. -/
theorem entry (p r : Fin 256) : Scalar.select (IntOp.cmpi .eq (BitVec.ofNat 32 (at8 p).val) (BitVec.ofNat 32 r.val))
    (Ideal.ofBits .f32 0x3F800000#32) (Ideal.ofBits .f32 0x00000000#32) = if at8 p = r then (1 : EReal) else 0 := by
  have h1 : Ideal.ofBits .f32 0x3F800000#32 = 1 := by
    simp [Ideal.ofBits, Ideal.ieee, -EReal.coe_mul]; norm_num
  have h0 : Ideal.ofBits .f32 0x00000000#32 = 0 := by simp [Ideal.ofBits, Ideal.ieee, -EReal.coe_mul]
  rw [h1, h0, Scalar.select, IntOp.cmpi]
  by_cases h : at8 p = r
  · rw [if_pos h, h, if_pos (by simp)]
  · rw [if_neg h, if_neg]
    have hn : (at8 p).val ≠ r.val := fun e => h (Fin.ext e)
    intro e
    have e' : BitVec.ofNat 32 (at8 p).val = BitVec.ofNat 32 r.val := by
      by_contra hne
      rw [beq_eq_false_iff_ne.mpr hne] at e
      exact absurd e (by decide)
    have e2 := congrArg BitVec.toNat e'
    simp only [BitVec.toNat_ofNat] at e2
    omega

/-- The row of the matrix that takes laid rows to the time row `r`. -/
theorem sum_at8 (r : Fin 256) (v : Fin 256 → EReal) : ∑ p, (if at8 p = r then (1 : EReal) else 0) * v p = v (back r) := by
  rw [Finset.sum_eq_single (back r)]
  · rw [at8_back, if_pos rfl, one_mul]
  · intro p _ hp
    rw [if_neg fun h => hp (by rw [← h, back_at8]), zero_mul]
  · exact fun h => absurd (Finset.mem_univ _) h

/-- The row of the matrix that takes time rows to the laid row `p`. -/
theorem sum_at8' (p : Fin 256) (v : Fin 256 → EReal) : ∑ r, (if at8 p = r then (1 : EReal) else 0) * v r = v (at8 p) := by
  rw [Finset.sum_eq_single (at8 p)]
  · rw [if_pos rfl, one_mul]
  · intro r _ hr
    rw [if_neg fun h => hr h.symm, zero_mul]
  · exact fun h => absurd (Finset.mem_univ _) h

/-- A number is real. -/
def IsReal (x : EReal) : Prop := ∃ r : ℝ, x = r

theorem IsReal.mul {x y : EReal} : IsReal x → IsReal y → IsReal (x * y) := by
  rintro ⟨a, rfl⟩ ⟨b, rfl⟩; exact ⟨a * b, (EReal.coe_mul a b).symm⟩

theorem IsReal.add {x y : EReal} : IsReal x → IsReal y → IsReal (x + y) := by
  rintro ⟨a, rfl⟩ ⟨b, rfl⟩; exact ⟨a + b, (EReal.coe_add a b).symm⟩

theorem IsReal.sum {ι : Type*} (s : Finset ι) (f : ι → EReal) (h : ∀ k, IsReal (f k)) : IsReal (∑ k ∈ s, f k) := by
  classical
  induction s using Finset.induction_on with
  | empty => exact ⟨0, by simp⟩
  | insert a s ha ih => rw [Finset.sum_insert ha]; exact (h a).add ih

theorem IsReal.sub_self {x : EReal} : IsReal x → x - x = 0 := by
  rintro ⟨a, rfl⟩; rw [← EReal.coe_sub, _root_.sub_self, EReal.coe_zero]

/-- A number below infinity in size is real. -/
theorem real_of_abs {x : EReal} (h : max x (-x) < ⊤) : IsReal x := by
  induction x using EReal.rec with
  | bot => simp at h
  | top => simp at h
  | coe a => exact ⟨a, rfl⟩

/-- The test "below infinity in size", answered with a one, says so. -/
theorem real_of_bit {x : EReal} (h : Ideal.cmp .olt (max x (-x)) (Ideal.ofBits .f32 0x7F800000#32) = 1#1) :
    IsReal x := by
  have htop : Ideal.ofBits .f32 0x7F800000#32 = ⊤ := by simp [Ideal.ofBits, Ideal.ieee]
  rw [htop] at h
  unfold Ideal.cmp at h
  refine real_of_abs (by_contra fun hn => ?_)
  simp [hn] at h

end Cert.Laid

end
-- ==== Proof.FfnBwdB.lean ====
/- The second half of the feed-forward block's backward: row tile by row tile the derivative of the residual stream, in both
   float types, and the derivative of the norm's gain summed over all rows. The tile's rows come with their sublanes side by
   side and a matrix of zeros and ones takes them back to time order. -/
module

public import proofs.«01_k».proof.Proof.Gen.Kernel7Ideal.Frame
public import proofs.«01_k».proof.Proof.Gen.Reference7Ideal.Read
public import proofs.«01_k».proof.Proof.Rms
public import proofs.«01_k».proof.Proof.Laid
public import proofs.«01_k».proof.Defs
public import Idealize.ShloMosaic.Lib.Pipeline.ValueKit
public import Idealize.ShloMosaic.Lib.Pipeline.ReadBack

@[expose] public section

set_option maxRecDepth 16384

noncomputable section

namespace Cert.Kernel7Ideal.FfnBwdB

open Idealize.ShloMosaic Idealize.ShloMosaic.TcCoe Idealize.SL.Sem
open Idealize.ShloMosaic.Pipeline (Dat)
open Cert.Kernel7Ideal Cert.Kernel7Ideal.Gen
open Cert.Reference7Ideal.Read

variable (m : (ℓ : Loc nD τ sig) → Buf (Elt Ideal) ℓ)

/-- Every window's block index at each grid point. -/
theorem idx : ∀ t : Fin cfg0.N, win0_0.index t = ![t.val, 0] ∧ win0_1.index t = ![0, 0]
    ∧ win0_2.index t = ![t.val, 0] ∧ win0_3.index t = ![0, 0] ∧ win0_4.index t = ![t.val, 0]
    ∧ win0_5.index t = ![0, 0] ∧ win0_6.index t = ![t.val, 0] ∧ win0_7.index t = ![t.val, 0]
    ∧ win0_8.index t = ![0, 0] :=
  (by decide +kernel : ∀ t : Fin grid0.N, _)

/-- The f32 pattern of 1024. -/
theorem lit_1024 : Ideal.ofBits .f32 0x44800000#32 = ((1024 : ℝ) : EReal) := by
  simp [Ideal.ofBits, Ideal.ieee, -EReal.coe_mul]; norm_num

/-- The f32 pattern of minus one half. -/
theorem lit_neg_half : Ideal.ofBits .f32 0xBF000000#32 = ((-(1 / 2) : ℝ) : EReal) := by
  simp [Ideal.ofBits, Ideal.ieee, -EReal.coe_mul, -EReal.coe_neg]; norm_num

/-- The guard under the root is positive. -/
theorem lit_eps_pos : 0 < Ideal.ofBits .f32 0x358637BD#32 := by
  simp [Ideal.ofBits, Ideal.ieee, -EReal.coe_mul]

/-- The derivative of the normed rows the tile computes. -/
def dht (c : Dev nD) (t : Fin cfg0.N) : FVec Ideal S256x1024 .f32 :=
  k0_pay5 (F := Ideal) (iblk m c 5 t) (iblk m c 0 t) (iblk m c 1 t)

/-- The derivative of the normed rows. -/
abbrev dh (c : Dev nD) : S4096x1024.Idx → EReal :=
  val_main_v17 (F := Ideal) (m ((c : Thread nD τ).loc main_arg2)) (m ((c : Thread nD τ).loc main_arg3))

/-- What the claim asks of the arguments: the weights and the incoming derivative are real. -/
structure Finite (c : Dev nD) : Prop where
  w : ∀ k : S1024x5632.Idx, Laid.IsReal (m ((c : Thread nD τ).loc main_arg2) k)
  u : ∀ k : S4096x5632.Idx, Laid.IsReal (m ((c : Thread nD τ).loc main_arg3) k)

instance preFacts : Cert.Pre_ffb_finite.Facts where
  bcast_S_S1024x5632 := by decide
  bcast_S_S4096x5632 := by decide

/-- The claim's test says so. -/
theorem finite_of_pre (h : Pre_Kernel7Ideal_ffb_finite m) (c : Dev nD) : Finite m c where
  w k := Laid.real_of_bit (congrFun (h c).1 k)
  u k := Laid.real_of_bit (congrFun (h c).2 k)

/-- So is their product. -/
theorem dh_real (c : Dev nD) (hf : Finite m c) (j : S4096x1024.Idx) : Laid.IsReal (dh m c j) := by
  unfold dh
  rw [val_main_v17_apply]
  exact Laid.IsReal.sum _ _ fun k => (hf.u _).mul (hf.w _)

/-- What the host lays out before the call: the gain as one row, -/
theorem V6 (c : Dev nD) (k : S1x1024.Idx) : V m c main_v6 k = m ((c : Thread nD τ).loc main_arg1) (ix1 (k 1)) := by
  unfold V
  simp only [hostOps0, hostOps0_1, hostOps0_2, hostOps0_3, hostOps0_4, List.flatten_cons, List.flatten_nil,
    List.cons_append, List.nil_append, List.append_nil]
  entry_read
  pointwise

/-- the matrix of zeros and ones, -/
theorem V28 (c : Dev nD) (r p : Fin 256) : V m c main_v28 (ix2 r p) = if Laid.at8 p = r then (1 : EReal) else 0 := by
  rw [← Laid.entry, ← Laid.word]
  unfold V
  simp only [hostOps0, hostOps0_1, hostOps0_2, hostOps0_3, hostOps0_4, List.flatten_cons, List.flatten_nil,
    List.cons_append, List.nil_append, List.append_nil]
  entry_read
  rfl

/-- the incoming derivative with every tile's rows laid, -/
theorem V3 (c : Dev nD) (q r : Fin 4096) (l : Fin 5632)
    (hr : (r : ℕ) = (q : ℕ) / 256 * 256 + (32 * ((q : ℕ) % 8) + (q : ℕ) % 256 / 8)) :
    V m c main_v3 (ix2 q l) = m ((c : Thread nD τ).loc main_arg3) (ix2 r l) := by
  unfold V
  simp only [hostOps0, hostOps0_1, hostOps0_2, hostOps0_3, hostOps0_4, List.flatten_cons, List.flatten_nil,
    List.cons_append, List.nil_append, List.append_nil]
  entry_read
  pointwise
  blk_ext
  have h := Nat.div_div_eq_div_mul (q : ℕ) 8 32
  omega

/-- and the weights transposed. -/
theorem V5 (c : Dev nD) (k : S5632x1024.Idx) : V m c main_v5 k = m ((c : Thread nD τ).loc main_arg2) (ix2 (k 1) (k 0)) := by
  unfold V
  simp only [hostOps0, hostOps0_1, hostOps0_2, hostOps0_3, hostOps0_4, List.flatten_cons, List.flatten_nil,
    List.cons_append, List.nil_append, List.append_nil]
  entry_read
  pointwise

/-- The tile's rows and the weights it multiplies. -/
abbrev ublk (c : Dev nD) (t : Fin cfg0.N) : FVec Ideal S256x5632 .bf16 := iblk m c 0 t
abbrev wblk (c : Dev nD) (t : Fin cfg0.N) : FVec Ideal S5632x1024 .bf16 := iblk m c 1 t

/-- The matrix the tile multiplies by. -/
theorem mat (c : Dev nD) (t : Fin cfg0.N) (r p : Fin 256) :
    iblk m c 5 t (ix2 r p) = if Laid.at8 p = r then (1 : EReal) else 0 := by
  rw [← V28 m c]
  blk_simp [iblk]
  refine congrArg (V m c main_v28) ?_
  blk_ext [idx t]

/-- A laid row's product is the reference's at that row's time. -/
theorem prod_at (c : Dev nD) (t : Fin cfg0.N) (p : Fin 256) (l l' : Fin 1024) (hl : (l' : ℕ) = l) (r : Fin 4096)
    (hr : (r : ℕ) = t.val * 256 + (Laid.at8 p).val) :
    ∑ k : Fin 5632, ublk m c t (ix2 p k) * wblk m c t (ix2 k l) = dh m c (ix2 r l') := by
  have ht : t.val < 16 := lt_of_lt_of_eq t.isLt N_0
  obtain rfl : l' = l := Fin.ext hl
  unfold dh
  pointwise [val_main_v17]
  refine Fin.sum_fin_congr fun k => congrArg₂ (fun a b : EReal => a * b) ?_ ?_
  · rw [← V3 m c ⟨t.val * 256 + p.val, by omega⟩ r k (by
      have h1 : (t.val * 256 + p.val) / 256 = t.val := by omega
      have h2 : (t.val * 256 + p.val) % 256 = p.val := by omega
      have h3 : (t.val * 256 + p.val) % 8 = p.val % 8 := by omega
      simp only [h1, h2, h3]
      rw [hr]
      simp only [Laid.at8])]
    unfold ublk
    blk_simp [iblk]
    refine congrArg (V m c main_v3) ?_
    blk_ext [idx t]
  · refine Eq.trans ?_ (V5 m c (ix2 k l'))
    unfold wblk
    blk_simp [iblk]
    refine congrArg (V m c main_v5) ?_
    blk_ext [idx t]

/-- A real product split in three parts, each taken back to time order, is the product at the row it came from. -/
theorem split3 (M : FVec Ideal S256x256 .bf16) (A : FVec Ideal S256x5632 .bf16) (B : FVec Ideal S5632x1024 .bf16)
    (r : Fin 256) (l : Fin 1024) (hM : ∀ p, M (ix2 r p) = if Laid.at8 p = r then (1 : EReal) else 0)
    (hR : ∀ p, Laid.IsReal (∑ k : Fin 5632, A (ix2 p k) * B (ix2 k l))) :
    k0_pay5 (F := Ideal) M A B (ix2 r l) = ∑ k : Fin 5632, A (ix2 (Laid.back r) k) * B (ix2 k l) := by
  have hs : ∀ p, (∑ k : Fin 5632, A (ix2 p k) * B (ix2 k l)) - (∑ k : Fin 5632, A (ix2 p k) * B (ix2 k l)) = 0 :=
    fun p => (hR p).sub_self
  pointwise [k0_pay5]
  simp only [hM, hs, sub_zero, mul_zero, Finset.sum_const_zero, add_zero]
  exact Laid.sum_at8 r fun p => ∑ k : Fin 5632, A (ix2 p k) * B (ix2 k l)

/-- The tile's product, taken back to time order in three parts, is the whole one. -/
theorem dh_at (c : Dev nD) (hf : Finite m c) (t : Fin cfg0.N) (i : S256x1024.Idx) (j : S4096x1024.Idx)
    (h0 : (j 0 : ℕ) = t.val * 256 + i 0) (h1 : (j 1 : ℕ) = i 1) : dht m c t i = dh m c j := by
  have ht : t.val < 16 := lt_of_lt_of_eq t.isLt N_0
  unfold dht
  rw [eq_ix2 j, eq_ix2 i]
  refine (split3 _ (ublk m c t) (wblk m c t) (i 0) (i 1) (fun p => mat m c t (i 0) p) fun p => ?_).trans
    (prod_at m c t _ (i 1) (j 1) h1 (j 0) ?_)
  · rw [prod_at m c t p (i 1) (i 1) rfl ⟨t.val * 256 + (Laid.at8 p).val, by have := (Laid.at8 p).isLt; omega⟩ rfl]
    exact dh_real m c hf _
  · exact h0.trans (congrArg (fun z : Fin 256 => t.val * 256 + z.val) (Laid.at8_back (i 0)).symm)

/-- The residual stream, the gain and the derivative that joins the row's own. -/
abbrev xs (c : Dev nD) : S4096x1024.Idx → EReal := m ((c : Thread nD τ).loc main_arg0)
abbrev gain (c : Dev nD) : S1024.Idx → EReal := m ((c : Thread nD τ).loc main_arg1)
abbrev dx1 (c : Dev nD) : S4096x1024.Idx → EReal := m ((c : Thread nD τ).loc main_arg4)

/-- A row's mean square with its guard. -/
def ms (c : Dev nD) (r : Fin 4096) : EReal :=
  Ideal.div (∑ l : Fin 1024, xs m c (ix2 r l) * xs m c (ix2 r l)) (Ideal.ofBits .f32 0x44800000#32)
    + Ideal.ofBits .f32 0x358637BD#32

/-- The guarded mean square is positive whatever the row holds. -/
theorem ms_pos (c : Dev nD) (r : Fin 4096) : 0 < ms m c r := by
  unfold ms
  rw [lit_1024]
  exact Rms.guarded_pos _ (fun l : Fin 1024 => xs m c (ix2 r l)) 1024 (by norm_num) lit_eps_pos

/-- The reference's derivative of one element. -/
theorem ref38 (c : Dev nD) (j : S4096x1024.Idx) : val_main_v38 (F := Ideal) (m ((c : Thread nD τ).loc main_arg0))
      (m ((c : Thread nD τ).loc main_arg1)) (m ((c : Thread nD τ).loc main_arg2)) (m ((c : Thread nD τ).loc main_arg3))
      (m ((c : Thread nD τ).loc main_arg4)) j
    = dx1 m c j + Ideal.rsqrt (ms m c (j 0)) * (dh m c j * gain m c (ix1 (j 1)) - xs m c j * Ideal.rsqrt (ms m c (j 0))
        * Ideal.div (∑ k : Fin 1024, dh m c (ix2 (j 0) k) * gain m c (ix1 k) * (xs m c (ix2 (j 0) k) * Ideal.rsqrt (ms m c (j 0))))
          (Ideal.ofBits .f32 0x44800000#32)) := by
  pointwise [val_main_v38, val_main_v37, val_main_v36, val_main_v35, val_main_v34, val_main_v33, val_main_cst_7, val_main_v32,
    val_main_v31, val_main_cst_6, val_main_v30, val_main_v29, val_main_v28, val_main_v27, val_main_v26, val_main_v25,
    val_main_cst_5, val_main_v24, val_main_v22, val_main_v21, val_main_v13, val_main_v10, val_main_v9, val_main_cst_2,
    val_main_v8, val_main_v7, val_main_v6, val_main_v5, val_main_cst_1, val_main_v4, val_main_v3, val_main_cst_0,
    val_main_v2, val_main_v1, val_main_cst, val_main_v0]
  have h := Rms.bwd Finset.univ (fun k : Fin 1024 => xs m c (ix2 (j 0) k))
    (fun k => dh m c (ix2 (j 0) k) * gain m c (ix1 k)) (dx1 m c j) (xs m c j) (dh m c j * gain m c (ix1 (j 1)))
    (ms m c (j 0)) 1024 (by norm_num) (ms_pos m c _)
  rw [← lit_1024, ← lit_neg_half] at h
  refine Eq.trans ?_ h.symm
  refine congrArg₂ (fun a b : EReal => a + b)
    (congrArg (fun a : EReal => (_ : EReal) + (_ : EReal) * a) (Fintype.sum_unique _))
    (congrArg (fun a : EReal => a * (_ : EReal)) (Fintype.sum_unique _))

/-- What the tile stores. -/
theorem pay2_at (c : Dev nD) (hf : Finite m c) (t : Fin cfg0.N) (i : S256x1024.Idx) (j : S4096x1024.Idx)
    (h0 : (j 0 : ℕ) = t.val * 256 + i 0) (h1 : (j 1 : ℕ) = i 1) :
    k0_pay2 (F := Ideal) (k0_pay6 (iblk m c 2 t)) (k0_pay7 (iblk m c 2 t))
      (k0_pay8 (iblk m c 5 t) (iblk m c 0 t) (iblk m c 1 t) (iblk m c 3 t))
      (k0_pay9 (iblk m c 5 t) (iblk m c 0 t) (iblk m c 1 t) (iblk m c 2 t) (iblk m c 3 t)) (iblk m c 4 t) i
    = dx1 m c j + Ideal.rsqrt (ms m c (j 0)) * (dh m c j * gain m c (ix1 (j 1)) - xs m c j * Ideal.rsqrt (ms m c (j 0))
        * Ideal.div (∑ k : Fin 1024, dh m c (ix2 (j 0) k) * gain m c (ix1 k) * (xs m c (ix2 (j 0) k) * Ideal.rsqrt (ms m c (j 0))))
          (Ideal.ofBits .f32 0x44800000#32)) := by
  have hx : ∀ k, iblk m c 2 t (ix2 (i 0) k) = xs m c (ix2 (j 0) k) := fun k => by blk_point [iblk, V, idx t]
  have hx' : iblk m c 2 t i = xs m c j := by blk_point [iblk, V, idx t]
  have hd : ∀ k, dht m c t (ix2 (i 0) k) = dh m c (ix2 (j 0) k) := fun k => dh_at m c hf t _ _ h0 rfl
  have hd' : dht m c t i = dh m c j := dh_at m c hf t i j h0 h1
  have hg : ∀ k, iblk m c 3 t (ix2 0 k) = gain m c (ix1 k) := fun k => by
    refine Eq.trans ?_ (V6 m c (ix2 0 k))
    blk_simp [iblk]
    refine congrArg (V m c main_v6) ?_
    blk_ext [idx t]
  have hj : iblk m c 3 t (ix2 0 (i 1)) = gain m c (ix1 (j 1)) := (hg (i 1)).trans (congrArg (fun k => gain m c (ix1 k)) (Fin.ext h1.symm))
  have hp : iblk m c 4 t i = dx1 m c j := by blk_point [iblk, V, idx t]
  unfold k0_pay9 k0_pay8
  unfold dht at hd hd'
  generalize k0_pay5 (F := Ideal) (iblk m c 5 t) (iblk m c 0 t) (iblk m c 1 t) = D at hd hd' ⊢
  pointwise [k0_pay2, k0_pay7, k0_pay6]
  simp only [hj, hx, hx', hd, hg, hp, hd']
  rfl

theorem final6 (c : Dev nD) (hf : Finite m c) : (dats m 0 c).arrAt 6 (cfgs 0).N
    = val_main_v38 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6, ref38]
  rcases Classical.em (t.val % 16 = 0) with h | h
  · rw [outsAt0_A m c t h]; frame_out
    refine pay2_at m c hf t y _ ?_ ?_ <;> (blk_simp [idx t] <;> try omega)
  · rw [outsAt0_B m c t h]; frame_out
    refine pay2_at m c hf t y _ ?_ ?_ <;> (blk_simp [idx t] <;> try omega)

theorem final7 (c : Dev nD) (hf : Finite m c) : (dats m 0 c).arrAt 7 (cfgs 0).N
    = val_main_v39 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 7 _ (by decide +kernel) fun t _ y => ?_
  blk_simp
  rw [after0_7]
  refine Eq.trans ?_ (ref38 m c _).symm
  rcases Classical.em (t.val % 16 = 0) with h | h
  · rw [outsAt0_A m c t h]; frame_out
    refine (show _ = _ from rfl).trans (pay2_at m c hf t y _ ?_ ?_) <;> (blk_simp [idx t] <;> try omega)
  · rw [outsAt0_B m c t h]; frame_out
    refine (show _ = _ from rfl).trans (pay2_at m c hf t y _ ?_ ?_) <;> (blk_simp [idx t] <;> try omega)

/-- Row `k` of the tile at `p`. -/
def row (p : Fin cfg0.N) (k : Fin 256) : Fin 4096 :=
  ⟨p.val * 256 + k.val, by have := lt_of_lt_of_eq p.isLt N_0; omega⟩

/-- One element's part in the gain's derivative. -/
def gterm (c : Dev nD) (j : S4096x1024.Idx) : EReal :=
  dh m c j * (xs m c j * Ideal.rsqrt (ms m c (j 0)))

/-- The tile's rows are added to what the block holds. -/
theorem pay1_at (c : Dev nD) (hf : Finite m c) (t : Fin cfg0.N) (acc : Vec Ideal S1x1024 .f32) (j : S1x1024.Idx) :
    k0_pay1 (F := Ideal) (dht m c t) (k0_pay7 (iblk m c 2 t)) acc j
      = acc j + ∑ k : Fin 256, gterm m c (ix2 (row t k) (j 1)) := by
  have hx : ∀ k l, iblk m c 2 t (ix2 k l) = xs m c (ix2 (row t k) l) := fun k l => by blk_point [iblk, V, idx t, row]
  have hx' : ∀ k, iblk m c 2 t (ix2 k (j 1)) = xs m c (ix2 (row t k) (j 1)) := fun k => hx k (j 1)
  have hd' : ∀ k, dht m c t (ix2 k (j 1)) = dh m c (ix2 (row t k) (j 1)) := fun k => dh_at m c hf t _ _ rfl rfl
  pointwise [k0_pay1, k0_pay7, k0_pay6]
  simp only [hx, hx', hd']
  rfl

/-- The fill of the first tile is zero. -/
theorem zero (j : S1x1024.Idx) : k0_pay4 (F := Ideal) j = 0 := by pointwise [k0_pay4]

/-- The gain's derivative is the sum over all rows. -/
theorem ref40 (c : Dev nD) (j : S1x1024.Idx) : val_main_v40 (F := Ideal) (m ((c : Thread nD τ).loc main_arg0))
      (m ((c : Thread nD τ).loc main_arg2)) (m ((c : Thread nD τ).loc main_arg3)) j
    = ∑ k : Fin 4096, gterm m c (ix2 k (j 1)) := by
  have hr : ∀ k, val_main_v7 (F := Ideal) (m ((c : Thread nD τ).loc main_arg0)) (ix2 k 0) = Ideal.rsqrt (ms m c k) := fun k => by
    pointwise [val_main_v7, val_main_v6, val_main_v5, val_main_cst_1, val_main_v4, val_main_v3, val_main_cst_0,
      val_main_v2, val_main_v1, val_main_cst, val_main_v0]
    rfl
  pointwise [val_main_v40, val_main_v23, val_main_cst_4, val_main_v20, val_main_v19, val_main_cst_3, val_main_v18,
    val_main_v12, val_main_v11]
  refine (Fintype.sum_unique _).trans (Finset.sum_congr rfl fun k _ => ?_)
  rw [hr, mul_comm]
  rfl

theorem final8 (c : Dev nD) (hf : Finite m c) : (dats m 0 c).arrAt 8 (cfgs 0).N
    = val_main_v40 (F := Ideal) (m ((c : Thread nD τ).loc main_arg0))
        (m ((c : Thread nD τ).loc main_arg2)) (m ((c : Thread nD τ).loc main_arg3)) := by
  refine (dats m 0 c).arrAt_eq_of_covers 8 _ (by decide +kernel) fun t hfl y => ?_
  blk_simp
  rw [after0_8, Pipeline.eq_sum_fin_of_reset_step_apply_of_flush (fun n h => (outsAt0 m c n h).2.2) 16 (fun _ => 0)
    (fun p j => ∑ k : Fin 256, gterm m c (ix2 (row p k) (j 1)))
    (fun t h j => by rw [outsAt0_A m c t h]; frame_out; exact (pay1_at m c hf t _ j).trans (by rw [zero]))
    (fun t h j => by rw [outsAt0_B m c t h]; frame_out; exact pay1_at m c hf t _ j)
    t ((flush0_8 t).mp hfl) _, zero_add, ref40]
  refine Fin.sum_mul_add_congr fun s k hl => ?_
  have ht := lt_of_lt_of_eq t.isLt N_0
  have hr : (16 * (t.val / 16) + s.val) * 256 + k.val = s.val * 256 + k.val := by omega
  refine congrArg (gterm m c) (congrArg₂ ix2 (Fin.ext hr) (Fin.ext ?_))
  blk_simp [idx t]

end Cert.Kernel7Ideal.FfnBwdB

end
-- ==== Proof.FfnFwdA.lean ====
/- The forward pass of the feed-forward block, row tile by row tile: what the tile's blocks hold, the normed rows, their up
   projection and its causal depthwise convolution over time, for which a tile keeps its last rows for the next. Inside a tile
   the rows lie with their sublanes side by side. -/
module

public import proofs.«01_k».proof.Proof.Gen.Kernel8Ideal.Frame
public import proofs.«01_k».proof.Proof.Gen.Reference8Ideal.Read
public import proofs.«01_k».proof.Proof.Rms
public import proofs.«01_k».proof.Proof.Laid
public import proofs.«01_k».proof.Defs
public import Idealize.ShloMosaic.Lib.Pipeline.ValueKit
public import Idealize.ShloMosaic.Lib.Pipeline.ReadBack

@[expose] public section

set_option maxRecDepth 16384

noncomputable section

namespace Cert.Kernel8Ideal.FfnFwd

open Idealize.ShloMosaic Idealize.ShloMosaic.TcCoe Idealize.SL.Sem
open Idealize.ShloMosaic.Pipeline (Dat)
open Cert.Kernel8Ideal Cert.Kernel8Ideal.Gen
open Cert.Reference8Ideal.Read

variable (m : (ℓ : Loc nD τ sig) → Buf (Elt Ideal) ℓ)

/-- Every window's block index at each grid point. -/
theorem idx : ∀ t : Fin cfg0.N, win0_0.index t = ![t.val, 0] ∧ win0_1.index t = ![0, 0]
    ∧ win0_2.index t = ![0, 0] ∧ win0_3.index t = ![0, 0] ∧ win0_4.index t = ![0, 0]
    ∧ win0_5.index t = ![0, 0] ∧ win0_6.index t = ![t.val, 0] ∧ win0_7.index t = ![0, 0]
    ∧ win0_8.index t = ![0, 0] ∧ win0_9.index t = ![t.val, 0] ∧ win0_10.index t = ![t.val, 0]
    ∧ win0_11.index t = ![t.val, 0] ∧ win0_12.index t = ![t.val, 0] ∧ win0_13.index t = ![t.val, 0]
    ∧ win0_14.index t = ![0, 0] :=
  (by decide +kernel : ∀ t : Fin grid0.N, _)

/-- The convolution of one chunk of columns: the taps over the chunk's laid rows and the last rows of the tile before. -/
def conv (uc : FVec Ideal S256x1408 .f32) (before : Vec Ideal S16x1408 .f32) (w : Vec Ideal S3x1408 .f32)
    (b : Vec Ideal S1x1408 .f32) : FVec Ideal S256x1408 .f32 :=
  k0_pay17 (F := Ideal) uc (k0_pay13 w) (k0_pay14 uc before w b) (k0_pay15 uc before w b) (k0_pay16 uc w b)

/-- In the four chunks the same operations are grouped in different ways. -/
theorem conv0 (x g M) (wu : Vec Ideal S1408x1024 .bf16) (before w b) :
    k0_pay17 (F := Ideal) (k0_pay8 x g M wu) (k0_pay13 w) (k0_pay14 (k0_pay8 x g M wu) before w b)
        (k0_pay15 (k0_pay8 x g M wu) before w b) (k0_pay16 (k0_pay8 x g M wu) w b)
      = conv (k0_pay19 (k0_pay7 x g M) wu) before w b := rfl

theorem conv1 (hl : FVec Ideal S256x1024 .bf16) (wu : Vec Ideal S1408x1024 .bf16) (before w b) :
    k0_pay23 (F := Ideal) (k0_pay19 hl wu) w (k0_pay20 b) (k0_pay21 hl wu before) (k0_pay22 hl wu before)
      = conv (k0_pay19 hl wu) before w b := rfl

theorem conv2 (hl : FVec Ideal S256x1024 .bf16) (wu : Vec Ideal S1408x1024 .bf16) (before w b) :
    k0_pay34 (F := Ideal) (k0_pay25 hl wu) (k0_pay26 b) (k0_pay28 w) (k0_pay29 w) (k0_pay30 w)
        (k0_pay31 (k0_pay25 hl wu) before w b) (k0_pay32 (k0_pay25 hl wu) before w b) (k0_pay33 (k0_pay25 hl wu) w)
      = conv (k0_pay19 hl wu) before w b := rfl

theorem conv3 (hl : FVec Ideal S256x1024 .bf16) (wu : Vec Ideal S1408x1024 .bf16) (before w b) :
    k0_pay41 (F := Ideal) (k0_pay36 hl wu) w (k0_pay37 b) (k0_pay38 hl wu before) (k0_pay39 hl wu) (k0_pay40 before)
      = conv (k0_pay19 hl wu) before w b := rfl

/-- The choice on the first row. -/
theorem sel (n : ℕ) (hn : n < 8) (x y : EReal) :
    Scalar.select (IntOp.cmpi .eq (BitVec.ofNat 32 n) 0#32) x y = if n = 0 then x else y := by
  interval_cases n <;> rfl

/-- Three taps over equal values. -/
theorem taps (b w0 w1 w2 : EReal) {x0 x1 x2 y0 y1 y2 : EReal} (e0 : x0 = y0) (e1 : x1 = y1) (e2 : x2 = y2) :
    b + w0 * x0 + w1 * x1 + w2 * x2 = b + w0 * y0 + w1 * y1 + w2 * y2 := by rw [e0, e1, e2]

/-- Each laid row is the tap sum at its own time: `f n` is the column at `n - 2` rows into the tile. -/
theorem conv_at (uc : FVec Ideal S256x1408 .f32) (before : Vec Ideal S16x1408 .f32) (w : Vec Ideal S3x1408 .f32)
    (b : Vec Ideal S1x1408 .f32) (f : ℕ → EReal) (l : Fin 1408) (hu : ∀ q : Fin 256, uc (ix2 q l) = f ((Laid.at8 q).val + 2))
    (h1 : before (ix2 15 l) = f 1) (h0 : before (ix2 7 l) = f 0) (p : Fin 256) :
    conv uc before w b (ix2 p l) = b (ix2 0 l) + w (ix2 0 l) * f (Laid.at8 p).val + w (ix2 1 l) * f ((Laid.at8 p).val + 1)
      + w (ix2 2 l) * f ((Laid.at8 p).val + 2) := by
  have hp := p.isLt
  unfold conv
  pointwise [k0_pay9, k0_pay10, k0_pay11, k0_pay12, k0_pay13, k0_pay14, k0_pay15, k0_pay16, k0_pay17]
  simp only [hu, h1, h0, Laid.at8]
  split_ifs with ha hb
  · rw [sel _ ha, sel _ ha]
    split_ifs with hz
    all_goals exact taps _ _ _ _ (congrArg f (by omega)) (congrArg f (by omega)) (congrArg f (by omega))
  · rw [sel _ hb]
    split_ifs with hz
    all_goals exact taps _ _ _ _ (congrArg f (by omega)) (congrArg f (by omega)) (congrArg f (by omega))
  · exact taps _ _ _ _ (congrArg f (by omega)) (congrArg f (by omega)) (congrArg f (by omega))

/-- What the host lays out before the call: the gain as one row, -/
theorem V0 (c : Dev nD) (k : S1x1024.Idx) : V m c main_v0 k = m ((c : Thread nD τ).loc main_arg1) (ix1 (k 1)) := by
  unfold V
  simp only [hostOps0, hostOps0_1, hostOps0_2, hostOps0_3, hostOps0_4, List.flatten_cons, List.flatten_nil,
    List.cons_append, List.nil_append, List.append_nil]
  entry_read
  pointwise

/-- the up projection's weights transposed, -/
theorem V2 (c : Dev nD) (k : S5632x1024.Idx) : V m c main_v2 k = m ((c : Thread nD τ).loc main_arg2) (ix2 (k 1) (k 0)) := by
  unfold V
  simp only [hostOps0, hostOps0_1, hostOps0_2, hostOps0_3, hostOps0_4, List.flatten_cons, List.flatten_nil,
    List.cons_append, List.nil_append, List.append_nil]
  entry_read
  pointwise

/-- the convolution's bias as one row, -/
theorem V3 (c : Dev nD) (k : S1x5632.Idx) : V m c main_v3 k = m ((c : Thread nD τ).loc main_arg4) (ix1 (k 1)) := by
  unfold V
  simp only [hostOps0, hostOps0_1, hostOps0_2, hostOps0_3, hostOps0_4, List.flatten_cons, List.flatten_nil,
    List.cons_append, List.nil_append, List.append_nil]
  entry_read
  pointwise

/-- the down projection's weights, -/
theorem V4 (c : Dev nD) (k : S2816x1024.Idx) : V m c main_v4 k = m ((c : Thread nD τ).loc main_arg5) k := by
  unfold V
  simp only [hostOps0, hostOps0_1, hostOps0_2, hostOps0_3, hostOps0_4, List.flatten_cons, List.flatten_nil,
    List.cons_append, List.nil_append, List.append_nil]
  entry_read
  pointwise

/-- and the two matrices of zeros and ones. -/
theorem V16 (c : Dev nD) (p r : Fin 256) : V m c main_v16 (ix2 p r) = if Laid.at8 p = r then (1 : EReal) else 0 := by
  rw [← Laid.entry, ← Laid.word]
  unfold V
  simp only [hostOps0, hostOps0_1, hostOps0_2, hostOps0_3, hostOps0_4, List.flatten_cons, List.flatten_nil,
    List.cons_append, List.nil_append, List.append_nil]
  entry_read
  rfl

theorem V26 (c : Dev nD) (r p : Fin 256) : V m c main_v26 (ix2 r p) = if Laid.at8 p = r then (1 : EReal) else 0 := by
  rw [← Laid.entry, ← Laid.word]
  unfold V
  simp only [hostOps0, hostOps0_1, hostOps0_2, hostOps0_3, hostOps0_4, List.flatten_cons, List.flatten_nil,
    List.cons_append, List.nil_append, List.append_nil]
  entry_read
  rfl

/-- What the tile's blocks hold. -/
theorem b0 (c : Dev nD) (t : Fin cfg0.N) (p : Fin 256) (k : Fin 1024) (r : Fin 4096) (hr : (r : ℕ) = t.val * 256 + p) :
    iblk m c 0 t (ix2 p k) = m ((c : Thread nD τ).loc main_arg0) (ix2 r k) := by
  have ht : t.val < 16 := lt_of_lt_of_eq t.isLt N_0
  blk_point [iblk, V, idx t]

theorem b1 (c : Dev nD) (t : Fin cfg0.N) (k : Fin 1024) :
    iblk m c 1 t (ix2 0 k) = m ((c : Thread nD τ).loc main_arg1) (ix1 k) := by
  refine Eq.trans ?_ (V0 m c (ix2 0 k))
  blk_simp [iblk]
  refine congrArg (V m c main_v0) ?_
  blk_ext [idx t]

theorem b2 (c : Dev nD) (t : Fin cfg0.N) (l : Fin 5632) (k : Fin 1024) :
    iblk m c 2 t (ix2 l k) = m ((c : Thread nD τ).loc main_arg2) (ix2 k l) := by
  refine Eq.trans ?_ (V2 m c (ix2 l k))
  blk_simp [iblk]
  refine congrArg (V m c main_v2) ?_
  blk_ext [idx t]

theorem b3 (c : Dev nD) (t : Fin cfg0.N) (j : Fin 3) (l : Fin 5632) :
    iblk m c 3 t (ix2 j l) = m ((c : Thread nD τ).loc main_arg3) (ix2 j l) := by
  blk_simp [iblk]
  unfold V
  simp only [hostOps0, hostOps0_1, hostOps0_2, hostOps0_3, hostOps0_4, List.flatten_cons, List.flatten_nil,
    List.cons_append, List.nil_append, List.append_nil]
  entry_read
  blk_point [idx t]

theorem b4 (c : Dev nD) (t : Fin cfg0.N) (l : Fin 5632) :
    iblk m c 4 t (ix2 0 l) = m ((c : Thread nD τ).loc main_arg4) (ix1 l) := by
  refine Eq.trans ?_ (V3 m c (ix2 0 l))
  blk_simp [iblk]
  refine congrArg (V m c main_v3) ?_
  blk_ext [idx t]

theorem b5 (c : Dev nD) (t : Fin cfg0.N) (l : Fin 2816) (k : Fin 1024) :
    iblk m c 5 t (ix2 l k) = m ((c : Thread nD τ).loc main_arg5) (ix2 l k) := by
  refine Eq.trans ?_ (V4 m c (ix2 l k))
  blk_simp [iblk]
  refine congrArg (V m c main_v4) ?_
  blk_ext [idx t]

theorem b6 (c : Dev nD) (t : Fin cfg0.N) (p : Fin 256) (k : Fin 1024) (r : Fin 4096) (hr : (r : ℕ) = t.val * 256 + p) :
    iblk m c 6 t (ix2 p k) = m ((c : Thread nD τ).loc main_arg6) (ix2 r k) := by
  have ht : t.val < 16 := lt_of_lt_of_eq t.isLt N_0
  blk_point [iblk, V, idx t]

theorem b7 (c : Dev nD) (t : Fin cfg0.N) (p r : Fin 256) :
    iblk m c 7 t (ix2 p r) = if Laid.at8 p = r then (1 : EReal) else 0 := by
  refine Eq.trans ?_ (V16 m c p r)
  blk_simp [iblk]
  refine congrArg (V m c main_v16) ?_
  blk_ext [idx t]

theorem b8 (c : Dev nD) (t : Fin cfg0.N) (r p : Fin 256) :
    iblk m c 8 t (ix2 r p) = if Laid.at8 p = r then (1 : EReal) else 0 := by
  refine Eq.trans ?_ (V26 m c r p)
  blk_simp [iblk]
  refine congrArg (V m c main_v26) ?_
  blk_ext [idx t]

/-- The tile's normed rows, laid. -/
abbrev hl (c : Dev nD) (t : Fin cfg0.N) : FVec Ideal S256x1024 .bf16 := k0_pay7 (F := Ideal) (iblk m c 0 t) (iblk m c 1 t) (iblk m c 7 t)

/-- The residual stream, the gain, the convolution's taps and its bias. -/
abbrev xs (c : Dev nD) : S4096x1024.Idx → EReal := m ((c : Thread nD τ).loc main_arg0)
abbrev gain (c : Dev nD) : S1024.Idx → EReal := m ((c : Thread nD τ).loc main_arg1)
abbrev tap (c : Dev nD) : S3x5632.Idx → EReal := m ((c : Thread nD τ).loc main_arg3)
abbrev bias (c : Dev nD) : S5632.Idx → EReal := m ((c : Thread nD τ).loc main_arg4)

/-- The reference's normed rows, their up projection and its convolution. -/
abbrev h2 (c : Dev nD) : S4096x1024.Idx → EReal :=
  val_main_v12 (F := Ideal) (m ((c : Thread nD τ).loc main_arg0)) (m ((c : Thread nD τ).loc main_arg1))
abbrev u (c : Dev nD) : S4096x5632.Idx → EReal :=
  val_main_v13 (F := Ideal) (m ((c : Thread nD τ).loc main_arg0)) (m ((c : Thread nD τ).loc main_arg1))
    (m ((c : Thread nD τ).loc main_arg2))
abbrev cv (c : Dev nD) : S4096x5632.Idx → EReal :=
  val_main_v37 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- A normed row of the reference. -/
theorem h2_eq (c : Dev nD) (r : Fin 4096) (k : Fin 1024) : h2 m c (ix2 r k)
    = xs m c (ix2 r k) * Ideal.rsqrt (Ideal.div (∑ l : Fin 1024,
        xs m c (ix2 r l) * xs m c (ix2 r l))
          (Ideal.ofBits .f32 0x44800000#32) + Ideal.ofBits .f32 0x358637BD#32)
      * gain m c (ix1 k) := by
  unfold h2
  pointwise [val_main_v12, val_main_v11, val_main_v10, val_main_v9, val_main_v8, val_main_v7, val_main_v6, val_main_v5,
    val_main_cst_1, val_main_v4, val_main_v3, val_main_cst_0, val_main_v2, val_main_v1, val_main_cst, val_main_v0]

/-- The tile's laid row is the normed row of its time. -/
theorem pay7_at (x : Vec Ideal S256x1024 .f32) (g : Vec Ideal S1x1024 .f32) (M : Vec Ideal S256x256 .bf16)
    (hM : ∀ p r, M (ix2 p r) = if Laid.at8 p = r then (1 : EReal) else 0) (p : Fin 256) (k : Fin 1024) :
    k0_pay7 (F := Ideal) x g M (ix2 p k) = x (ix2 (Laid.at8 p) k) * Ideal.rsqrt (Ideal.div (∑ l : Fin 1024,
        x (ix2 (Laid.at8 p) l) * x (ix2 (Laid.at8 p) l) : EReal)
          (Ideal.ofBits .f32 0x44800000#32) + Ideal.ofBits .f32 0x358637BD#32) * g (ix2 0 k) := by
  pointwise [k0_pay7]
  simp only [hM]
  exact Laid.sum_at8' p fun r => x (ix2 r k) * Ideal.rsqrt (Ideal.div (∑ l : Fin 1024,
        x (ix2 r l) * x (ix2 r l) : EReal)
          (Ideal.ofBits .f32 0x44800000#32) + Ideal.ofBits .f32 0x358637BD#32) * g (ix2 0 k)

theorem hl_at (c : Dev nD) (t : Fin cfg0.N) (p : Fin 256) (k : Fin 1024) (r : Fin 4096)
    (hr : (r : ℕ) = t.val * 256 + (Laid.at8 p).val) : hl m c t (ix2 p k) = h2 m c (ix2 r k) := by
  unfold hl
  rw [h2_eq, pay7_at _ _ _ (b7 m c t), b1, b0 m c t _ _ r hr]
  simp only [b0 m c t _ _ r hr]

/-- A chunk's product, entry by entry. -/
theorem pay19_at (hl : FVec Ideal S256x1024 .bf16) (wu : Vec Ideal S1408x1024 .bf16) (q : Fin 256) (l : Fin 1408) :
    k0_pay19 (F := Ideal) hl wu (ix2 q l) = ∑ k : Fin 1024, (hl (ix2 q k) : EReal) * wu (ix2 l k) := by
  pointwise [k0_pay19]

/-- A chunk's product is the up projection of the row of its time. -/
theorem uc_at (c : Dev nD) (t : Fin cfg0.N) (wu : Vec Ideal S1408x1024 .bf16) (l : Fin 1408) (L : Fin 5632)
    (hw : ∀ k : Fin 1024, wu (ix2 l k) = m ((c : Thread nD τ).loc main_arg2) (ix2 k L)) (q : Fin 256) (r : Fin 4096)
    (hr : (r : ℕ) = t.val * 256 + (Laid.at8 q).val) :
    k0_pay19 (F := Ideal) (hl m c t) wu (ix2 q l) = u m c (ix2 r L) := by
  rw [pay19_at]
  unfold u
  pointwise [val_main_v13]
  exact Finset.sum_congr rfl fun k _ => congrArg₂ (fun a b : EReal => a * b) (hl_at m c t q k r hr) (hw k)

/-- The padded up projection: two rows of zeros come before the first. -/
def pad (c : Dev nD) (L : Fin 5632) (n : ℕ) : EReal :=
  if h : n < 4098 then val_main_v14 (F := Ideal) (m ((c : Thread nD τ).loc main_arg0)) (m ((c : Thread nD τ).loc main_arg1))
    (m ((c : Thread nD τ).loc main_arg2)) (ix2 ⟨n, h⟩ L) else 0

theorem pad_zero (c : Dev nD) (L : Fin 5632) (n : ℕ) (hn : n < 2) : pad m c L n = 0 := by
  unfold pad
  rw [dif_pos (by omega)]
  pointwise [val_main_v14, val_main_call0_v0, val_main_c]
  rw [dif_neg (by omega)]
  show (((0#32 : BitVec 32).toInt : ℝ) : EReal) = 0
  simp

theorem pad_row (c : Dev nD) (L : Fin 5632) (n : ℕ) (r : Fin 4096) (hn : n = (r : ℕ) + 2) : pad m c L n = u m c (ix2 r L) := by
  unfold pad
  rw [dif_pos (by omega)]
  pointwise [val_main_v14, val_main_call0_v0, val_main_c]
  have hr := r.isLt
  rw [dif_pos (by omega)]
  exact congrArg (fun q : Fin 4096 => u m c (ix2 q L)) (Fin.ext (by simp only; omega))

/-- The reference's convolution over the padded rows. -/
theorem cv_eq (c : Dev nD) (r : Fin 4096) (L : Fin 5632) : cv m c (ix2 r L)
    = bias m c (ix1 L) + tap m c (ix2 0 L) * pad m c L r
      + tap m c (ix2 1 L) * pad m c L ((r : ℕ) + 1)
      + tap m c (ix2 2 L) * pad m c L ((r : ℕ) + 2) := by
  have hr := r.isLt
  unfold pad
  rw [dif_pos (by omega), dif_pos (by omega), dif_pos (by omega)]
  unfold cv
  pointwise [val_main_v37, val_main_v36, val_main_v35, val_main_v34, val_main_v33, val_main_v32, val_main_v31, val_main_v30,
    val_main_v29, val_main_v28, val_main_v27, val_main_v26, val_main_v25, val_main_v24, val_main_v23, val_main_v22,
    val_main_v21, val_main_v20, val_main_v19, val_main_v18, val_main_v17, val_main_v16, val_main_v15]
  simp only [Nat.add_comm 1, Nat.add_comm 2]

/-- The laid results of the reference, row by row: row `q` is the plain array's row at its time. -/
theorem lay62 (c : Dev nD) (q r : Fin 4096) (k : Fin 1024)
    (hr : (r : ℕ) = (q : ℕ) / 256 * 256 + (32 * ((q : ℕ) % 8) + (q : ℕ) % 256 / 8)) :
    val_main_v62 (F := Ideal) (m ((c : Thread nD τ).loc main_arg0)) (m ((c : Thread nD τ).loc main_arg1)) (ix2 q k)
      = h2 m c (ix2 r k) := by
  unfold h2
  pointwise [val_main_v62, val_main_v61, val_main_v60, val_main_v59]
  blk_ext
  have h := Nat.div_div_eq_div_mul (q : ℕ) 8 32
  omega

theorem lay65 (c : Dev nD) (q r : Fin 4096) (k : Fin 5632)
    (hr : (r : ℕ) = (q : ℕ) / 256 * 256 + (32 * ((q : ℕ) % 8) + (q : ℕ) % 256 / 8)) :
    val_main_v65 (F := Ideal) (m ((c : Thread nD τ).loc main_arg0)) (m ((c : Thread nD τ).loc main_arg1))
        (m ((c : Thread nD τ).loc main_arg2)) (ix2 q k)
      = u m c (ix2 r k) := by
  unfold u
  pointwise [val_main_v65, val_main_v64, val_main_v63]
  blk_ext
  have h := Nat.div_div_eq_div_mul (q : ℕ) 8 32
  omega

theorem lay68 (c : Dev nD) (q r : Fin 4096) (k : Fin 5632)
    (hr : (r : ℕ) = (q : ℕ) / 256 * 256 + (32 * ((q : ℕ) % 8) + (q : ℕ) % 256 / 8)) :
    val_main_v68 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) (ix2 q k)
      = cv m c (ix2 r k) := by
  unfold cv
  pointwise [val_main_v68, val_main_v67, val_main_v66]
  blk_ext
  have h := Nat.div_div_eq_div_mul (q : ℕ) 8 32
  omega

/-- Row `p` of tile `t` lies at that time. -/
theorem time (t : Fin cfg0.N) (p : Fin 256) (q : ℕ) (hq : q = t.val * 256 + p.val) :
    t.val * 256 + (Laid.at8 p).val = q / 256 * 256 + (32 * (q % 8) + q % 256 / 8) := by
  have hp := p.isLt
  have h1 : q / 256 = t.val := by omega
  have h2 : q % 256 = p.val := by omega
  have h3 : q % 8 = p.val % 8 := by omega
  simp only [h1, h2, h3, Laid.at8]

/-- The time of row `p` of tile `t`. -/
def at_ (t : Fin cfg0.N) (p : Fin 256) : Fin 4096 :=
  ⟨t.val * 256 + (Laid.at8 p).val, by have := lt_of_lt_of_eq t.isLt N_0; have := (Laid.at8 p).isLt; omega⟩

theorem out9 (c : Dev nD) (t : Fin cfg0.N) (i : S256x1024.Idx) (j : S4096x1024.Idx)
    (h0 : (j 0 : ℕ) = t.val * 256 + i 0) (h1 : (j 1 : ℕ) = i 1) :
    hl m c t i = val_main_v62 (F := Ideal) (m ((c : Thread nD τ).loc main_arg0)) (m ((c : Thread nD τ).loc main_arg1)) j := by
  obtain h1 : j 1 = i 1 := Fin.ext h1
  rw [eq_ix2 i, eq_ix2 j, lay62 m c (j 0) (at_ t (i 0)) (j 1) (time t (i 0) _ h0), h1]
  exact hl_at m c t _ _ _ rfl

theorem final9 (c : Dev nD) : (dats m 0 c).arrAt 9 (cfgs 0).N
    = val_main_v62 (F := Ideal) (m ((c : Thread nD τ).loc main_arg0)) (m ((c : Thread nD τ).loc main_arg1)) := by
  refine (dats m 0 c).arrAt_eq_of_covers 9 _ (by decide +kernel) fun t _ y => ?_
  blk_simp
  rw [after0_9]
  rcases Classical.em (t.val % 16 = 0) with h | h
  on_goal 1 => rw [outsAt0_A m c t h]
  on_goal 2 => rw [outsAt0_B m c t h]
  all_goals
    frame_out
    refine out9 m c t y _ ?_ ?_ <;> (blk_simp [idx t] <;> try omega)

/-- The four chunks take the same steps. -/
theorem e25 : @k0_pay25 Ideal _ = k0_pay19 := rfl
theorem e36 : @k0_pay36 Ideal _ = k0_pay19 := rfl
theorem e8 (x g M w) : k0_pay8 (F := Ideal) x g M w = k0_pay19 (k0_pay7 x g M) w := rfl
theorem e24 (uc : FVec Ideal S256x1408 .f32) : k0_pay24 (F := Ideal) uc = k0_pay18 uc := rfl
theorem e35 (uc : FVec Ideal S256x1408 .f32) : k0_pay35 (F := Ideal) uc = k0_pay18 uc := rfl
theorem e42 (uc : FVec Ideal S256x1408 .f32) : k0_pay42 (F := Ideal) uc = k0_pay18 uc := rfl

/-- A chunk of the up projection's weights. -/
theorem ld2 (c : Dev nD) (t : Fin cfg0.N) (off : ℕ) (inb) (l : Fin 1408) (k : Fin 1024) (L : Fin 5632) (hL : (L : ℕ) = off + l) :
    View.ld (iblk m c 2 t) (Rect.unit (s := S5632x1024) ![off, 0] ![1408, 1024] inb) (ix2 l k)
      = m ((c : Thread nD τ).loc main_arg2) (ix2 k L) := by
  refine Eq.trans (congrArg (iblk m c 2 t) ?_) (b2 m c t L k)
  funext a
  refine Fin.ext ?_
  fin_cases a
  · exact (Rect.idx_unit_val _ _ _ _ _).trans hL.symm
  · exact (Rect.idx_unit_val _ _ _ _ _).trans (Nat.zero_add _)

/-- A chunk's piece of the laid up projection. -/
theorem out10 (c : Dev nD) (t : Fin cfg0.N) (wu : Vec Ideal S1408x1024 .bf16) (x : S256x1408.Idx) (j : S4096x5632.Idx)
    (hw : ∀ k : Fin 1024, wu (ix2 (x 1) k) = m ((c : Thread nD τ).loc main_arg2) (ix2 k (j 1)))
    (h0 : (j 0 : ℕ) = t.val * 256 + x 0) :
    k0_pay19 (F := Ideal) (hl m c t) wu x = val_main_v65 (F := Ideal) (m ((c : Thread nD τ).loc main_arg0))
      (m ((c : Thread nD τ).loc main_arg1)) (m ((c : Thread nD τ).loc main_arg2)) j := by
  rw [eq_ix2 x, eq_ix2 j, lay65 m c (j 0) (at_ t (x 0)) (j 1) (time t (x 0) _ h0)]
  exact uc_at m c t wu (x 1) (j 1) hw _ _ rfl

theorem final10 (c : Dev nD) : (dats m 0 c).arrAt 10 (cfgs 0).N
    = val_main_v65 (F := Ideal) (m ((c : Thread nD τ).loc main_arg0)) (m ((c : Thread nD τ).loc main_arg1))
        (m ((c : Thread nD τ).loc main_arg2)) := by
  refine (dats m 0 c).arrAt_eq_of_covers 10 _ (by decide +kernel) fun t _ y => ?_
  blk_simp
  rw [after0_10]
  rcases Classical.em (t.val % 16 = 0) with h | h
  on_goal 1 => rw [outsAt0_A m c t h]
  on_goal 2 => rw [outsAt0_B m c t h]
  all_goals
    frame_out
    simp only [e25, e36, e8]
    canon_tiles x h
    all_goals
      refine out10 m c t _ x _ (fun k => ld2 m c t _ _ _ _ _ ?_) ?_ <;> (blk_simp [idx t] <;> try omega)

/-- What a tile leaves for the next, as the padded rows hold it. -/
theorem keep_at (c : Dev nD) (t : Fin cfg0.N) (wu : Vec Ideal S1408x1024 .bf16) (x : S16x1408.Idx) (y : S16x5632.Idx)
    (hw : ∀ k : Fin 1024, wu (ix2 (x 1) k) = m ((c : Thread nD τ).loc main_arg2) (ix2 k (y 1))) (h0 : (y 0 : ℕ) = x 0) :
    k0_pay18 (F := Ideal) (k0_pay19 (hl m c t) wu) x
      = pad m c (y 1) (t.val * 256 + (32 * ((y 0).val % 8) + 32 + (y 0).val / 8)) := by
  have hx : (x 0).val < 16 := (x 0).isLt
  rw [eq_ix2 x]
  pointwise [k0_pay18]
  rw [uc_at m c t wu (x 1) (y 1) hw _ (at_ t ⟨240 + (x 0).val, by omega⟩) rfl]
  refine (pad_row m c (y 1) _ _ ?_).symm
  simp only [at_, Laid.at8, h0]
  omega

theorem carried (c : Dev nD) (t : Fin cfg0.N) (y : S16x5632.Idx) :
    (outsAt0 m c t.val t.isLt).2.2.2.2.2.2 y
      = pad m c (y 1) (t.val * 256 + (32 * ((y 0).val % 8) + 32 + (y 0).val / 8)) := by
  rcases Classical.em (t.val % 16 = 0) with h | h
  · rw [outsAt0_A m c t h]
    frame_out
    simp only [e25, e36, e8, e24, e35, e42]
    refine View.canon_append_of_piecesOf (Val := Elt Ideal) (e := .f32) (s := S16x5632) (fun y : S16x5632.Idx =>
        pad m c (y 1) (t.val * 256 + (32 * ((y 0).val % 8) + 32 + (y 0).val / 8))) [_] [_, _, _, _]
      ⟨fun x => ?_, fun x => ?_, fun x => ?_, fun x => ?_, trivial⟩ y ?_
    on_goal 5 => exact View.cover_of_tiledBy _ ![16, 1408] (by sl_kernel_rfl) y
    all_goals
      dsimp only
      refine keep_at m c t _ x _ (fun k => ld2 m c t _ _ _ _ _ ?_) ?_
    all_goals first
      | exact rfl
      | exact Rect.idx_unit_val _ _ _ _ _
      | exact (Rect.idx_unit_val _ _ _ _ _).trans (Nat.zero_add _)
  · rw [outsAt0_B m c t h]
    frame_out
    simp only [e25, e36, e8, e24, e35, e42]
    canon_tiles x h
    all_goals
      exact keep_at m c t _ x _ (fun k => ld2 m c t _ _ _ _ _ (by first | exact h1 | exact h1.trans (Nat.zero_add _).symm)) h0

/-- A chunk's taps and bias. -/
theorem ld3 (c : Dev nD) (t : Fin cfg0.N) (off : ℕ) (inb) (j : Fin 3) (l : Fin 1408) (L : Fin 5632) (hL : (L : ℕ) = off + l) :
    View.ld (iblk m c 3 t) (Rect.unit (s := S3x5632) ![0, off] ![3, 1408] inb) (ix2 j l) = tap m c (ix2 j L) := by
  refine Eq.trans (congrArg (iblk m c 3 t) ?_) (b3 m c t j L)
  funext a
  refine Fin.ext ?_
  fin_cases a
  · exact (Rect.idx_unit_val _ _ _ _ _).trans (Nat.zero_add _)
  · exact (Rect.idx_unit_val _ _ _ _ _).trans hL.symm

theorem ld4 (c : Dev nD) (t : Fin cfg0.N) (off : ℕ) (inb) (l : Fin 1408) (L : Fin 5632) (hL : (L : ℕ) = off + l) :
    View.ld (iblk m c 4 t) (Rect.unit (s := S1x5632) ![0, off] ![1, 1408] inb) (ix2 0 l) = bias m c (ix1 L) := by
  refine Eq.trans (congrArg (iblk m c 4 t) ?_) (b4 m c t L)
  funext a
  refine Fin.ext ?_
  fin_cases a
  · exact (Rect.idx_unit_val _ _ _ _ _).trans (Nat.zero_add _)
  · exact (Rect.idx_unit_val _ _ _ _ _).trans hL.symm

/-- A chunk of the rows the tile before left. -/
theorem ldc (c : Dev nD) (t s : Fin cfg0.N) (hs : s.val + 1 = t.val) (off : ℕ) (inb) (j : Fin 16) (l : Fin 1408) (L : Fin 5632)
    (hL : (L : ℕ) = off + l) :
    View.ld (Val := Elt Ideal) (e' := .f32) ((outsAt0 m c s.val s.isLt).2.2.2.2.2.2) (Rect.unit (s := S16x5632) ![0, off] ![16, 1408] inb) (ix2 j l)
      = pad m c L (t.val * 256 + (32 * (j.val % 8) + j.val / 8) - 224) := by
  refine Eq.trans (congrArg ((outsAt0 m c s.val s.isLt).2.2.2.2.2.2) ?_) ((carried m c s (ix2 j L)).trans
    (congrArg (pad m c L) ?_))
  · funext a
    refine Fin.ext ?_
    fin_cases a
    · exact (Rect.idx_unit_val _ _ _ _ _).trans (Nat.zero_add _)
    · exact (Rect.idx_unit_val _ _ _ _ _).trans hL.symm
  · show s.val * 256 + (32 * (j.val % 8) + 32 + j.val / 8) = _
    omega

/-- The first tile finds zeros. -/
theorem fill0 (y : S16x5632.Idx) : k0_pay5 (F := Ideal) y = 0 := by pointwise [k0_pay5]

/-- A chunk's convolution, entry by entry. -/
theorem conv_ref (c : Dev nD) (t : Fin cfg0.N) (wu : Vec Ideal S1408x1024 .bf16) (before : Vec Ideal S16x1408 .f32)
    (w : Vec Ideal S3x1408 .f32) (b : Vec Ideal S1x1408 .f32) (p : Fin 256) (l : Fin 1408) (L : Fin 5632)
    (hw : ∀ k : Fin 1024, wu (ix2 l k) = m ((c : Thread nD τ).loc main_arg2) (ix2 k L))
    (hk : ∀ s : Fin 3, w (ix2 s l) = tap m c (ix2 s L)) (hb : b (ix2 0 l) = bias m c (ix1 L))
    (h7 : before (ix2 7 l) = pad m c L (t.val * 256)) (h15 : before (ix2 15 l) = pad m c L (t.val * 256 + 1)) :
    conv (k0_pay19 (F := Ideal) (hl m c t) wu) before w b (ix2 p l) = cv m c (ix2 (at_ t p) L) := by
  rw [conv_at _ before w b (fun n => pad m c L (t.val * 256 + n)) l (fun q =>
    (uc_at m c t wu l L hw q _ rfl).trans (pad_row m c L _ (at_ t q) (by simp only [at_]; omega)).symm) h15 h7 p, hb, hk 0, hk 1, hk 2]
  exact (cv_eq m c (at_ t p) L).symm

end Cert.Kernel8Ideal.FfnFwd

end
-- ==== Proof.FfnFwd.lean ====
/- The feed-forward block's forward pass, continued: the laid convolution read off the tile's four chunks, the gated product and
   its down projection, taken back to time order in three parts, the error against the target, its derivative and the loss. -/
module

public import proofs.«01_k».proof.Proof.Gen.Kernel8Ideal.Frame
public import proofs.«01_k».proof.Proof.Gen.Reference8Ideal.Read
public import proofs.«01_k».proof.Proof.Rms
public import proofs.«01_k».proof.Proof.Laid
public import proofs.«01_k».proof.Defs
public import proofs.«01_k».proof.Proof.FfnFwdA
public import Idealize.ShloMosaic.Lib.Pipeline.ValueKit
public import Idealize.ShloMosaic.Lib.Pipeline.ReadBack

@[expose] public section

set_option maxRecDepth 16384

noncomputable section

namespace Cert.Kernel8Ideal.FfnFwd

open Idealize.ShloMosaic Idealize.ShloMosaic.TcCoe Idealize.SL.Sem
open Idealize.ShloMosaic.Pipeline (Dat)
open Cert.Kernel8Ideal Cert.Kernel8Ideal.Gen
open Cert.Reference8Ideal.Read

variable (m : (ℓ : Loc nD τ sig) → Buf (Elt Ideal) ℓ)

/-- A chunk's piece of the laid convolution. -/
theorem piece11 (c : Dev nD) (t : Fin cfg0.N) (wu : Vec Ideal S1408x1024 .bf16) (before : Vec Ideal S16x1408 .f32)
    (w : Vec Ideal S3x1408 .f32) (b : Vec Ideal S1x1408 .f32) (x : S256x1408.Idx) (y : S256x5632.Idx)
    (hw : ∀ k : Fin 1024, wu (ix2 (x 1) k) = m ((c : Thread nD τ).loc main_arg2) (ix2 k (y 1)))
    (hk : ∀ s : Fin 3, w (ix2 s (x 1)) = tap m c (ix2 s (y 1))) (hb : b (ix2 0 (x 1)) = bias m c (ix1 (y 1)))
    (h7 : before (ix2 7 (x 1)) = pad m c (y 1) (t.val * 256)) (h15 : before (ix2 15 (x 1)) = pad m c (y 1) (t.val * 256 + 1))
    (h0 : (y 0 : ℕ) = x 0) :
    conv (k0_pay19 (F := Ideal) (hl m c t) wu) before w b x = cv m c (ix2 (at_ t (y 0)) (y 1)) := by
  rw [show y 0 = x 0 from Fin.ext h0, eq_ix2 x]
  exact conv_ref m c t wu before w b (x 0) (x 1) (y 1) hw hk hb h7 h15

/-- Rows 7 and 15 of what the tile before left are the two rows before this tile. -/
theorem before7 (c : Dev nD) (t : Fin cfg0.N) (ht : ¬ t.val % 16 = 0) (hp) (off : ℕ) (inb) (l : Fin 1408) (L : Fin 5632)
    (hL : (L : ℕ) = off + l) :
    View.ld (Val := Elt Ideal) (e' := .f32) ((outsAt0 m c (t.val - 1) hp).2.2.2.2.2.2) (Rect.unit (s := S16x5632) ![0, off] ![16, 1408] inb) (ix2 7 l)
      = pad m c L (t.val * 256) :=
  (ldc m c t ⟨t.val - 1, hp⟩ (by simp only; omega) off inb 7 l L hL).trans (congrArg (pad m c L) (by
    show t.val * 256 + (32 * (7 % 8) + 7 / 8) - 224 = _; omega))

theorem before15 (c : Dev nD) (t : Fin cfg0.N) (ht : ¬ t.val % 16 = 0) (hp) (off : ℕ) (inb) (l : Fin 1408) (L : Fin 5632)
    (hL : (L : ℕ) = off + l) :
    View.ld (Val := Elt Ideal) (e' := .f32) ((outsAt0 m c (t.val - 1) hp).2.2.2.2.2.2) (Rect.unit (s := S16x5632) ![0, off] ![16, 1408] inb) (ix2 15 l)
      = pad m c L (t.val * 256 + 1) :=
  (ldc m c t ⟨t.val - 1, hp⟩ (by simp only; omega) off inb 15 l L hL).trans (congrArg (pad m c L) (by
    show t.val * 256 + (32 * (15 % 8) + 15 / 8) - 224 = _; omega))

set_option maxHeartbeats 4000000 in
theorem tile11 (c : Dev nD) (t : Fin cfg0.N) (y : S256x5632.Idx) :
    (outsAt0 m c t.val t.isLt).2.2.1 y = cv m c (ix2 (at_ t (y 0)) (y 1)) := by
  rcases Classical.em (t.val % 16 = 0) with h | h
  · have hz : t.val = 0 := by have ht : t.val < 16 := lt_of_lt_of_eq t.isLt N_0; omega
    have z0 : ∀ L, pad m c L (t.val * 256) = 0 := fun L => pad_zero m c L _ (by omega)
    have z1 : ∀ L, pad m c L (t.val * 256 + 1) = 0 := fun L => pad_zero m c L _ (by omega)
    rw [outsAt0_A m c t h]
    frame_out
    canon_tiles x h
    on_goal 1 => refine (congrFun (conv3 _ _ _ _ _) x).trans (piece11 m c t _ _ _ _ x y (fun k => ld2 m c t _ _ _ _ _ h1)
      (fun s => ld3 m c t _ _ _ _ _ h1) (ld4 m c t _ _ _ _ h1) (Eq.trans ?_ (z0 _).symm) (Eq.trans ?_ (z1 _).symm) h0)
    on_goal 3 => refine (congrFun (conv2 _ _ _ _ _) x).trans (piece11 m c t _ _ _ _ x y (fun k => ld2 m c t _ _ _ _ _ h1)
      (fun s => ld3 m c t _ _ _ _ _ h1) (ld4 m c t _ _ _ _ h1) (Eq.trans ?_ (z0 _).symm) (Eq.trans ?_ (z1 _).symm) h0)
    on_goal 5 => refine (congrFun (conv1 _ _ _ _ _) x).trans (piece11 m c t _ _ _ _ x y (fun k => ld2 m c t _ _ _ _ _ h1)
      (fun s => ld3 m c t _ _ _ _ _ h1) (ld4 m c t _ _ _ _ h1) (Eq.trans ?_ (z0 _).symm) (Eq.trans ?_ (z1 _).symm) h0)
    on_goal 7 => refine (congrFun (conv0 _ _ _ _ _ _ _) x).trans (piece11 m c t _ _ _ _ x y
      (fun k => ld2 m c t _ _ _ _ _ (h1.trans (Nat.zero_add _).symm))
      (fun s => ld3 m c t _ _ _ _ _ (h1.trans (Nat.zero_add _).symm)) (ld4 m c t _ _ _ _ (h1.trans (Nat.zero_add _).symm))
      (Eq.trans ?_ (z0 _).symm) (Eq.trans ?_ (z1 _).symm) h0)
    on_goal 1 => rw [View.readCov_skip, View.readCov_skip, View.readCov_skip, View.readCov_fill]; exact fill0 _; all_goals decide
    on_goal 1 => rw [View.readCov_skip, View.readCov_skip, View.readCov_skip, View.readCov_fill]; exact fill0 _; all_goals decide
    on_goal 1 => rw [View.readCov_skip, View.readCov_skip, View.readCov_fill]; exact fill0 _; all_goals decide
    on_goal 1 => rw [View.readCov_skip, View.readCov_skip, View.readCov_fill]; exact fill0 _; all_goals decide
    on_goal 1 => rw [View.readCov_skip, View.readCov_fill]; exact fill0 _; all_goals decide
    on_goal 1 => rw [View.readCov_skip, View.readCov_fill]; exact fill0 _; all_goals decide
    on_goal 1 => rw [View.readCov_fill]; exact fill0 _; all_goals decide
    on_goal 1 => rw [View.readCov_fill]; exact fill0 _; all_goals decide
  · have hp : t.val - 1 < cfg0.N := lt_of_le_of_lt (Nat.sub_le _ _) t.isLt
    rw [outsAt0_B m c t h]
    frame_out
    canon_tiles x h
    on_goal 1 => refine (congrFun (conv3 _ _ _ _ _) x).trans (piece11 m c t _ _ _ _ x y (fun k => ld2 m c t _ _ _ _ _ h1)
      (fun s => ld3 m c t _ _ _ _ _ h1) (ld4 m c t _ _ _ _ h1) ?_ ?_ h0)
    on_goal 3 => refine (congrFun (conv2 _ _ _ _ _) x).trans (piece11 m c t _ _ _ _ x y (fun k => ld2 m c t _ _ _ _ _ h1)
      (fun s => ld3 m c t _ _ _ _ _ h1) (ld4 m c t _ _ _ _ h1) ?_ ?_ h0)
    on_goal 5 => refine (congrFun (conv1 _ _ _ _ _) x).trans (piece11 m c t _ _ _ _ x y (fun k => ld2 m c t _ _ _ _ _ h1)
      (fun s => ld3 m c t _ _ _ _ _ h1) (ld4 m c t _ _ _ _ h1) ?_ ?_ h0)
    on_goal 7 => refine (congrFun (conv0 _ _ _ _ _ _ _) x).trans (piece11 m c t _ _ _ _ x y
      (fun k => ld2 m c t _ _ _ _ _ (h1.trans (Nat.zero_add _).symm))
      (fun s => ld3 m c t _ _ _ _ _ (h1.trans (Nat.zero_add _).symm)) (ld4 m c t _ _ _ _ (h1.trans (Nat.zero_add _).symm))
      ?_ ?_ h0)
    all_goals rw [read_unread_whole]
    on_goal 1 => exact before7 m c t h hp _ _ _ _ h1
    on_goal 1 => exact before15 m c t h hp _ _ _ _ h1
    on_goal 1 => exact before7 m c t h hp _ _ _ _ h1
    on_goal 1 => exact before15 m c t h hp _ _ _ _ h1
    on_goal 1 => exact before7 m c t h hp _ _ _ _ h1
    on_goal 1 => exact before15 m c t h hp _ _ _ _ h1
    on_goal 1 => exact before7 m c t h hp _ _ _ _ (h1.trans (Nat.zero_add _).symm)
    on_goal 1 => exact before15 m c t h hp _ _ _ _ (h1.trans (Nat.zero_add _).symm)

/-- A product taken back to time order in three parts is the whole product. -/
theorem pay43_at (G0 V0 : Vec Ideal S256x1408 .f32) (W0 : Vec Ideal S1408x1024 .bf16) (G1 V1 : Vec Ideal S256x1408 .f32)
    (W1 : Vec Ideal S1408x1024 .bf16) (M : Vec Ideal S256x256 .bf16) (r : Fin 256) (l : Fin 1024) (D : Fin 256 → EReal)
    (hM : ∀ p, M (ix2 r p) = if Laid.at8 p = r then (1 : EReal) else 0) (hR : ∀ p, Laid.IsReal (D p))
    (hD : ∀ p, (∑ k : Fin 1408, G0 (ix2 p k) * Ideal.logistic (G0 (ix2 p k)) * V0 (ix2 p k) * W0 (ix2 k l) : EReal)
      + (∑ k : Fin 1408, G1 (ix2 p k) * Ideal.logistic (G1 (ix2 p k)) * V1 (ix2 p k) * W1 (ix2 k l) : EReal) = D p) :
    k0_pay43 (F := Ideal) G0 V0 W0 G1 V1 W1 M (ix2 r l) = D (Laid.back r) := by
  have hs : ∀ p, D p - D p = 0 := fun p => (hR p).sub_self
  pointwise [k0_pay43]
  simp only [hD, hM, hs, sub_zero, mul_zero, Finset.sum_const_zero, add_zero]
  exact Laid.sum_at8 r D

/-- The down projection's weights and the target rows. -/
abbrev wd (c : Dev nD) : S2816x1024.Idx → EReal := m ((c : Thread nD τ).loc main_arg5)
abbrev tg (c : Dev nD) : S4096x1024.Idx → EReal := m ((c : Thread nD τ).loc main_arg6)

/-- The reference's down projection, and its error against the target. -/
abbrev dn (c : Dev nD) : S4096x1024.Idx → EReal :=
  val_main_v42 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5))
abbrev er (c : Dev nD) (r : Fin 4096) (l : Fin 1024) : EReal := xs m c (ix2 r l) + dn m c (ix2 r l) - tg m c (ix2 r l)

/-- An entry of the gated product. -/
def act (c : Dev nD) (r : Fin 4096) (k : Fin 2816) : EReal :=
  cv m c (ix2 r ⟨k.val, by omega⟩) * Ideal.logistic (cv m c (ix2 r ⟨k.val, by omega⟩)) * cv m c (ix2 r ⟨2816 + k.val, by omega⟩)

theorem one_lit : Ideal.ofBits .f32 0x3F800000#32 = 1 := by simp [Ideal.ofBits, Ideal.ieee, -EReal.coe_mul]; norm_num

theorem dn_eq (c : Dev nD) (r : Fin 4096) (l : Fin 1024) :
    dn m c (ix2 r l) = ∑ k : Fin 2816, act m c r k * wd m c (ix2 k l) := by
  unfold dn
  pointwise [val_main_v42, val_main_v41, val_main_v40, val_main_v39, val_main_v38, val_main_call1_v5, val_main_call1_v4,
    val_main_call1_v3, val_main_call1_v2, val_main_call1_v1, val_main_call1_v0, val_main_call1_cst, val_main_call1_cst_0]
  exact Finset.sum_congr rfl fun k _ => rfl

/-- The down projection sums two halves. -/
theorem dn_halves (c : Dev nD) (r : Fin 4096) (l : Fin 1024) :
    (∑ k : Fin 1408, act m c r ⟨k.val, by omega⟩ * wd m c (ix2 ⟨k.val, by omega⟩ l))
      + (∑ k : Fin 1408, act m c r ⟨1408 + k.val, by omega⟩ * wd m c (ix2 ⟨1408 + k.val, by omega⟩ l)) = dn m c (ix2 r l) := by
  rw [dn_eq]
  exact (Fin.sum_univ_add (a := 1408) (b := 1408) fun k : Fin 2816 => act m c r k * wd m c (ix2 k l)).symm

/-- A chip on which every entry of the gain, the weights, the taps and the bias is a real number. -/
structure Finite (c : Dev nD) : Prop where
  g : ∀ i, Laid.IsReal (gain m c i)
  wu : ∀ i, Laid.IsReal ((m ((c : Thread nD τ).loc main_arg2) : S1024x5632.Idx → EReal) i)
  k : ∀ i, Laid.IsReal (tap m c i)
  b : ∀ i, Laid.IsReal (bias m c i)
  wd : ∀ i, Laid.IsReal (wd m c i)

theorem guard_lit : Ideal.ofBits .f32 0x358637BD#32 = ((8796093 / 8796093022208 : ℝ) : EReal) := by
  simp [Ideal.ofBits, Ideal.ieee, -EReal.coe_mul]; norm_num

theorem n_lit : Ideal.ofBits .f32 0x44800000#32 = ((1024 : ℝ) : EReal) := by
  simp [Ideal.ofBits, Ideal.ieee, -EReal.coe_mul]; norm_num

theorem square_nonneg (x : EReal) : 0 ≤ x * x := by
  rcases le_total 0 x with h | h
  · exact mul_nonneg h h
  · rw [← neg_mul_neg]; exact mul_nonneg (EReal.neg_nonneg.mpr h) (EReal.neg_nonneg.mpr h)

/-- A normed entry is real, be the row what it may: an infinite entry makes the mean of squares infinite. -/
theorem h2_real (c : Dev nD) (hf : Finite m c) (r : Fin 4096) (k : Fin 1024) : Laid.IsReal (h2 m c (ix2 r k)) := by
  rw [h2_eq, guard_lit, n_lit]
  refine Laid.IsReal.mul ?_ (hf.g _)
  have he : (0 : EReal) < ((8796093 / 8796093022208 : ℝ) : EReal) := by exact_mod_cast (by norm_num : (0 : ℝ) < 8796093 / 8796093022208)
  have hpos := Rms.guarded_pos Finset.univ (fun l : Fin 1024 => xs m c (ix2 r l)) 1024 (by norm_num) he
  obtain ⟨q, -, hq, -⟩ := Rms.rsqrt_real hpos
  have hreal : Laid.IsReal (xs m c (ix2 r k)) ∨ xs m c (ix2 r k) * xs m c (ix2 r k) = ⊤ := by
    induction xs m c (ix2 r k) using EReal.rec with
    | bot => exact Or.inr (by simp)
    | top => exact Or.inr (by simp)
    | coe a => exact Or.inl ⟨a, rfl⟩
  rcases hreal with h | h
  · exact h.mul ⟨q, hq⟩
  · have hsum : (∑ l : Fin 1024, xs m c (ix2 r l) * xs m c (ix2 r l)) = ⊤ :=
      top_le_iff.mp (h ▸ Finset.single_le_sum (f := fun l : Fin 1024 => xs m c (ix2 r l) * xs m c (ix2 r l))
        (fun l _ => square_nonneg _) (Finset.mem_univ k))
    rw [hsum]
    have hn0 : ((1024 : ℝ) : EReal) ≠ 0 := by exact_mod_cast (by norm_num : (1024 : ℝ) ≠ 0)
    have ht : Ideal.rsqrt (Ideal.div ⊤ ((1024 : ℝ) : EReal) + ((8796093 / 8796093022208 : ℝ) : EReal)) = 0 := by
      rw [Ideal.div, if_neg hn0, ← EReal.coe_inv, EReal.top_mul_coe_of_pos (by norm_num), EReal.top_add_coe]
      simp
    rw [ht, mul_zero]
    exact ⟨0, by simp⟩

theorem u_real (c : Dev nD) (hf : Finite m c) (r : Fin 4096) (L : Fin 5632) : Laid.IsReal (u m c (ix2 r L)) := by
  unfold u
  pointwise [val_main_v13]
  exact Laid.IsReal.sum _ _ fun k => (h2_real m c hf r k).mul (hf.wu _)

theorem pad_real (c : Dev nD) (hf : Finite m c) (L : Fin 5632) (n : ℕ) : Laid.IsReal (pad m c L n) := by
  rcases Classical.em (n < 2) with h | h
  · rw [pad_zero m c L n h]; exact ⟨0, by simp⟩
  · rcases Classical.em (n < 4098) with h' | h'
    · rw [pad_row m c L n ⟨n - 2, by omega⟩ (by simp only; omega)]; exact u_real m c hf _ _
    · unfold pad; rw [dif_neg h']; exact ⟨0, by simp⟩

theorem cv_real (c : Dev nD) (hf : Finite m c) (r : Fin 4096) (L : Fin 5632) : Laid.IsReal (cv m c (ix2 r L)) := by
  rw [cv_eq]
  exact (((hf.b _).add ((hf.k _).mul (pad_real m c hf _ _))).add ((hf.k _).mul (pad_real m c hf _ _))).add
    ((hf.k _).mul (pad_real m c hf _ _))

theorem logistic_real {x : EReal} : Laid.IsReal x → Laid.IsReal (Ideal.logistic x) := by
  rintro ⟨a, rfl⟩
  have h : (0 : ℝ) < 1 + Real.exp (-a) := by positivity
  refine ⟨1 * (1 + Real.exp (-a))⁻¹, ?_⟩
  have e : (1 : EReal) + Ideal.exp (-(a : EReal)) = ((1 + Real.exp (-a) : ℝ) : EReal) := by
    rw [← EReal.coe_neg, EReal.coe_add]; rfl
  show Ideal.div 1 (1 + Ideal.exp (-(a : EReal))) = _
  rw [e, Ideal.div, if_neg (by exact_mod_cast h.ne'), ← EReal.coe_inv, EReal.coe_mul]
  rfl

theorem dn_real (c : Dev nD) (hf : Finite m c) (r : Fin 4096) (l : Fin 1024) : Laid.IsReal (dn m c (ix2 r l)) := by
  rw [dn_eq]
  refine Laid.IsReal.sum _ _ fun k => Laid.IsReal.mul ?_ (hf.wd _)
  exact ((cv_real m c hf _ _).mul (logistic_real (cv_real m c hf _ _))).mul (cv_real m c hf _ _)

/-- A chunk of the down projection's weights. -/
theorem ld5 (c : Dev nD) (t : Fin cfg0.N) (off : ℕ) (inb) (k : Fin 1408) (l : Fin 1024) (K : Fin 2816) (hK : (K : ℕ) = off + k) :
    View.ld (iblk m c 5 t) (Rect.unit (s := S2816x1024) ![off, 0] ![1408, 1024] inb) (ix2 k l) = wd m c (ix2 K l) := by
  refine Eq.trans (congrArg (iblk m c 5 t) ?_) (b5 m c t K l)
  funext a
  refine Fin.ext ?_
  fin_cases a
  · exact (Rect.idx_unit_val _ _ _ _ _).trans hK.symm
  · exact (Rect.idx_unit_val _ _ _ _ _).trans (Nat.zero_add _)

/-- The tile's product from chunks of the convolution and of the weights. -/
theorem down_at (c : Dev nD) (hf : Finite m c) (t : Fin cfg0.N) (G0 V0 : Vec Ideal S256x1408 .f32)
    (G1 V1 : Vec Ideal S256x1408 .f32) (inb inb')
    (hG0 : ∀ p (k : Fin 1408), G0 (ix2 p k) = cv m c (ix2 (at_ t p) ⟨k.val, by omega⟩))
    (hV0 : ∀ p (k : Fin 1408), V0 (ix2 p k) = cv m c (ix2 (at_ t p) ⟨2816 + k.val, by omega⟩))
    (hG1 : ∀ p (k : Fin 1408), G1 (ix2 p k) = cv m c (ix2 (at_ t p) ⟨1408 + k.val, by omega⟩))
    (hV1 : ∀ p (k : Fin 1408), V1 (ix2 p k) = cv m c (ix2 (at_ t p) ⟨4224 + k.val, by omega⟩))
    (r : Fin 256) (l : Fin 1024) (R : Fin 4096) (hR : (R : ℕ) = t.val * 256 + r) :
    k0_pay43 (F := Ideal) G0 V0 (View.ld (iblk m c 5 t) (Rect.unit (s := S2816x1024) ![0, 0] ![1408, 1024] inb)) G1 V1
      (View.ld (iblk m c 5 t) (Rect.unit (s := S2816x1024) ![1408, 0] ![1408, 1024] inb')) (iblk m c 8 t) (ix2 r l)
      = dn m c (ix2 R l) := by
  rw [pay43_at _ _ _ _ _ _ _ r l (fun p => dn m c (ix2 (at_ t p) l)) (fun p => b8 m c t r p)
    (fun p => dn_real m c hf _ _) fun p => ?_]
  · refine congrArg (fun q : Fin 4096 => dn m c (ix2 q l)) (Fin.ext ?_)
    simp only [at_, Laid.at8_back, hR]
  · rw [← dn_halves]
    refine congrArg₂ (fun a b : EReal => a + b) (Finset.sum_congr rfl fun k _ => ?_) (Finset.sum_congr rfl fun k _ => ?_)
    · rw [hG0, hV0, ld5 m c t 0 inb k l ⟨k.val, by omega⟩ (Nat.zero_add _).symm]
      rfl
    · rw [hG1, hV1, ld5 m c t 1408 inb' k l ⟨1408 + k.val, by omega⟩ rfl]
      unfold act
      simp only [← Nat.add_assoc]

/-- A chunk of the convolution, read back off the tile. -/
theorem back11 (c : Dev nD) (t : Fin cfg0.N) (X : S256x5632.Idx → EReal) (hX : X = (outsAt0 m c t.val t.isLt).2.2.1)
    (off : ℕ) (inb) (p : Fin 256) (k : Fin 1408) (K : Fin 5632) (hK : (K : ℕ) = off + k) :
    X ((Rect.unit (s := S256x5632) ![0, off] ![256, 1408] inb).idx (ix2 p k)) = cv m c (ix2 (at_ t p) K) := by
  rw [hX]
  refine Eq.trans (congrArg ((outsAt0 m c t.val t.isLt).2.2.1) ?_) (tile11 m c t (ix2 p K))
  funext a
  refine Fin.ext ?_
  fin_cases a
  · exact (Rect.idx_unit_val _ _ _ _ _).trans (Nat.zero_add _)
  · exact (Rect.idx_unit_val _ _ _ _ _).trans hK.symm

set_option maxHeartbeats 4000000 in
/-- What the first tile gives: the error's derivative, plain and laid, and the loss so far, all from the tile's product. -/
theorem tileA (c : Dev nD) (hf : Finite m c) (t : Fin cfg0.N) (h : t.val % 16 = 0) : ∃ tt : FVec Ideal S256x1024 .f32,
    (∀ (r : Fin 256) (l : Fin 1024) (R : Fin 4096), (R : ℕ) = t.val * 256 + r → tt (ix2 r l) = dn m c (ix2 R l))
    ∧ (outsAt0 m c t.val t.isLt).2.2.2.1 = k0_pay3 (iblk m c 0 t) tt (iblk m c 6 t)
    ∧ (outsAt0 m c t.val t.isLt).2.2.2.2.1 = k0_pay4 (iblk m c 0 t) tt (iblk m c 6 t) (iblk m c 7 t)
    ∧ (outsAt0 m c t.val t.isLt).2.2.2.2.2.1 = k0_pay2 (iblk m c 0 t) tt (iblk m c 6 t) (k0_pay6 (F := Ideal)) := by
  rw [outsAt0_A m c t h]
  frame_out
  refine ⟨_, ?_, rfl, rfl, ?_⟩
  · intro r l R hR
    refine down_at m c hf t _ _ _ _ _ _ (fun p k => ?_) (fun p k => ?_) (fun p k => ?_) (fun p k => ?_) r l R hR
    all_goals rw [View.readCov_eq_canon']
    on_goal 1 => refine back11 m c t _ ?_ 0 _ p k _ (Nat.zero_add _).symm
    on_goal 2 => refine back11 m c t _ ?_ 2816 _ p k _ rfl
    on_goal 3 => refine back11 m c t _ ?_ 1408 _ p k _ rfl
    on_goal 4 => refine back11 m c t _ ?_ 4224 _ p k _ rfl
    all_goals
      rw [outsAt0_A m c t h]
      frame_out
  · rfl

set_option maxHeartbeats 4000000 in
/-- What a later tile gives: the error's derivative, plain and laid, and the loss so far, all from the tile's product. -/
theorem tileB (c : Dev nD) (hf : Finite m c) (t : Fin cfg0.N) (h : ¬ t.val % 16 = 0) : ∃ tt : FVec Ideal S256x1024 .f32,
    (∀ (r : Fin 256) (l : Fin 1024) (R : Fin 4096), (R : ℕ) = t.val * 256 + r → tt (ix2 r l) = dn m c (ix2 R l))
    ∧ (outsAt0 m c t.val t.isLt).2.2.2.1 = k0_pay3 (iblk m c 0 t) tt (iblk m c 6 t)
    ∧ (outsAt0 m c t.val t.isLt).2.2.2.2.1 = k0_pay4 (iblk m c 0 t) tt (iblk m c 6 t) (iblk m c 7 t)
    ∧ (outsAt0 m c t.val t.isLt).2.2.2.2.2.1 = k0_pay2 (iblk m c 0 t) tt (iblk m c 6 t) ((outsAt0 m c (t.val - 1) (lt_of_le_of_lt (Nat.sub_le _ _) t.isLt)).2.2.2.2.2.1) := by
  rw [outsAt0_B m c t h]
  frame_out
  refine ⟨_, ?_, rfl, rfl, ?_⟩
  · intro r l R hR
    refine down_at m c hf t _ _ _ _ _ _ (fun p k => ?_) (fun p k => ?_) (fun p k => ?_) (fun p k => ?_) r l R hR
    all_goals rw [View.readCov_eq_canon']
    on_goal 1 => refine back11 m c t _ ?_ 0 _ p k _ (Nat.zero_add _).symm
    on_goal 2 => refine back11 m c t _ ?_ 2816 _ p k _ rfl
    on_goal 3 => refine back11 m c t _ ?_ 1408 _ p k _ rfl
    on_goal 4 => refine back11 m c t _ ?_ 4224 _ p k _ rfl
    all_goals
      rw [outsAt0_B m c t h]
      frame_out
  · rfl

/-- The laid convolution. -/
theorem final11 (c : Dev nD) : (dats m 0 c).arrAt 11 (cfgs 0).N
    = val_main_v68 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 11 _ (by decide +kernel) fun t _ y => ?_
  blk_simp
  rw [after0_11]
  refine (tile11 m c t y).trans (Eq.symm ?_)
  refine Eq.trans (congrArg _ (eq_ix2 _)) ((lay68 m c _ (at_ t (y 0)) _ (time t (y 0) _ ?_)).trans
    (congrArg (cv m c) (congrArg₂ ix2 rfl (Fin.ext ?_)))) <;> (blk_simp [idx t] <;> try omega)

/-- The constants. -/
theorem half_lit : Ideal.ofBits .f32 0x3F000000#32 = ((1 / 2 : ℝ) : EReal) := by
  simp [Ideal.ofBits, Ideal.ieee, -EReal.coe_mul]; norm_num

theorem two_lit : Ideal.ofBits .f32 0x40000000#32 = ((2 : ℝ) : EReal) := by
  simp [Ideal.ofBits, Ideal.ieee, -EReal.coe_mul]; norm_num

theorem inv_lit : Ideal.ofBits .f32 0x3A800000#32 = ((1 / 1024 : ℝ) : EReal) := by
  simp [Ideal.ofBits, Ideal.ieee, -EReal.coe_mul]; norm_num

theorem inv2_lit : Ideal.ofBits .f32 0x3A000000#32 = ((1 / 2048 : ℝ) : EReal) := by
  simp [Ideal.ofBits, Ideal.ieee, -EReal.coe_mul]; norm_num

theorem div_n (x : EReal) : Ideal.div x ((1024 : ℝ) : EReal) = x * ((1 / 1024 : ℝ) : EReal) := by
  have hn0 : ((1024 : ℝ) : EReal) ≠ 0 := by exact_mod_cast (by norm_num : (1024 : ℝ) ≠ 0)
  rw [Ideal.div, if_neg hn0, ← EReal.coe_inv, one_div]

/-- The derivative of the loss is the error over 1024: half the two of the square's derivative. -/
theorem dy_eq (c : Dev nD) (r : Fin 4096) (l : Fin 1024) : val_main_v58 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (ix2 r l)
    = er m c r l * Ideal.ofBits .f32 0x3A800000#32 := by
  pointwise [val_main_v58, val_main_v57, val_main_v56, val_main_v55, val_main_cst_9, val_main_v54, val_main_v53, val_main_cst_8,
    val_main_cst_7, val_main_v47, val_main_v46, val_main_cst_2, val_main_v44, val_main_v43]
  rw [half_lit, n_lit, two_lit, inv_lit, div_n, ← EReal.coe_mul, ← mul_assoc, ← EReal.coe_mul, mul_comm]
  exact congrArg (fun a : ℝ => er m c r l * (a : EReal)) (by norm_num)

/-- The laid derivative, row by row. -/
theorem lay72 (c : Dev nD) (q r : Fin 4096) (k : Fin 1024)
    (hr : (r : ℕ) = (q : ℕ) / 256 * 256 + (32 * ((q : ℕ) % 8) + (q : ℕ) % 256 / 8)) :
    val_main_v72 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (ix2 q k)
      = val_main_v58 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (ix2 r k) := by
  pointwise [val_main_v72, val_main_v71, val_main_v70, val_main_v69]
  blk_ext
  have h := Nat.div_div_eq_div_mul (q : ℕ) 8 32
  omega

/-- Row `p` of tile `t`. -/
def row (t : Fin cfg0.N) (p : Fin 256) : Fin 4096 :=
  ⟨t.val * 256 + p.val, by have := lt_of_lt_of_eq t.isLt N_0; have := p.isLt; omega⟩

/-- The tile's rows and its target. -/
abbrev xb (c : Dev nD) (t : Fin cfg0.N) : S256x1024.Idx → EReal := iblk m c 0 t
abbrev tb (c : Dev nD) (t : Fin cfg0.N) : S256x1024.Idx → EReal := iblk m c 6 t

/-- The tile's error from its product. -/
theorem err_at (c : Dev nD) (t : Fin cfg0.N) (tt : S256x1024.Idx → EReal)
    (htt : ∀ (r : Fin 256) (l : Fin 1024) (R : Fin 4096), (R : ℕ) = t.val * 256 + r → tt (ix2 r l) = dn m c (ix2 R l))
    (p : Fin 256) (l : Fin 1024) (R : Fin 4096) (hR : (R : ℕ) = t.val * 256 + p) :
    xb m c t (ix2 p l) + tt (ix2 p l) - tb m c t (ix2 p l) = er m c R l := by
  have e0 : xb m c t (ix2 p l) = xs m c (ix2 R l) := b0 m c t p l R hR
  have e6 : tb m c t (ix2 p l) = tg m c (ix2 R l) := b6 m c t p l R hR
  rw [e0, htt p l R hR, e6]

/-- The error's derivative of a tile, plain, -/
theorem pay3_at (c : Dev nD) (t : Fin cfg0.N) (tt : FVec Ideal S256x1024 .f32)
    (htt : ∀ (r : Fin 256) (l : Fin 1024) (R : Fin 4096), (R : ℕ) = t.val * 256 + r → tt (ix2 r l) = dn m c (ix2 R l))
    (p : Fin 256) (l : Fin 1024) (R : Fin 4096) (hR : (R : ℕ) = t.val * 256 + p) :
    k0_pay3 (F := Ideal) (iblk m c 0 t) tt (iblk m c 6 t) (ix2 p l) = er m c R l * Ideal.ofBits .f32 0x3A800000#32 := by
  pointwise [k0_pay3, k0_pay1]
  exact congrArg (fun a : EReal => a * Ideal.ofBits .f32 0x3A800000#32) (err_at m c t tt htt p l R hR)

/-- and laid. -/
theorem pay4_at (c : Dev nD) (t : Fin cfg0.N) (tt : FVec Ideal S256x1024 .f32)
    (htt : ∀ (r : Fin 256) (l : Fin 1024) (R : Fin 4096), (R : ℕ) = t.val * 256 + r → tt (ix2 r l) = dn m c (ix2 R l))
    (p : Fin 256) (l : Fin 1024) (R : Fin 4096) (hR : (R : ℕ) = t.val * 256 + (Laid.at8 p).val) :
    k0_pay4 (F := Ideal) (iblk m c 0 t) tt (iblk m c 6 t) (iblk m c 7 t) (ix2 p l)
      = er m c R l * Ideal.ofBits .f32 0x3A800000#32 := by
  refine Eq.trans ?_ (pay3_at m c t tt htt (Laid.at8 p) l R hR)
  refine Eq.trans ?_ (Laid.sum_at8' p fun q => k0_pay3 (F := Ideal) (iblk m c 0 t) tt (iblk m c 6 t) (ix2 q l))
  refine Eq.trans ?_ (Finset.sum_congr rfl fun q _ => congrArg (fun a : EReal => a * k0_pay3 (F := Ideal) (iblk m c 0 t) tt (iblk m c 6 t) (ix2 q l))
    (b7 m c t p q))
  pointwise [k0_pay4, k0_pay3, k0_pay1]

/-- What a row adds to the loss. -/
def part (c : Dev nD) (r : Fin 4096) : EReal := (∑ l : Fin 1024, er m c r l * er m c r l) * ((1 / 2048 : ℝ) : EReal)

/-- A tile adds its rows' parts. -/
theorem pay2_at (c : Dev nD) (t : Fin cfg0.N) (tt : FVec Ideal S256x1024 .f32)
    (htt : ∀ (r : Fin 256) (l : Fin 1024) (R : Fin 4096), (R : ℕ) = t.val * 256 + r → tt (ix2 r l) = dn m c (ix2 R l))
    (acc : Vec Ideal S8x128 .f32) (y : S8x128.Idx) :
    k0_pay2 (F := Ideal) (iblk m c 0 t) tt (iblk m c 6 t) acc y = acc y + ∑ p : Fin 256, part m c (row t p) := by
  unfold part
  rw [Rms.sum_mul_real _ _ _ (by norm_num), ← inv2_lit]
  pointwise [k0_pay2, k0_pay1]
  rw [mul_comm]
  refine congrArg (fun a : EReal => acc y + a * Ideal.ofBits .f32 0x3A000000#32) (Finset.sum_congr rfl fun p _ => Finset.sum_congr rfl fun l _ => ?_)
  exact congrArg (fun a : EReal => a * a) (err_at m c t tt htt p l (row t p) rfl)

/-- The loss is the sum of all rows' parts. -/
theorem loss_eq (c : Dev nD) (y : S8x128.Idx) : val_main_v73 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) y = ∑ r : Fin 4096, part m c r := by
  have h : ∀ r, part m c r = (∑ l : Fin 1024, er m c r l * er m c r l) * ((1 / 1024 : ℝ) : EReal) * ((1 / 2 : ℝ) : EReal) := fun r => by
    unfold part
    rw [mul_assoc, ← EReal.coe_mul]
    exact congrArg (fun a : ℝ => (∑ l : Fin 1024, er m c r l * er m c r l) * (a : EReal)) (by norm_num)
  simp only [h]
  rw [Rms.sum_mul_real _ _ _ (by norm_num)]
  pointwise [val_main_v73, val_main_v52, val_main_cst_6, val_main_v51, val_main_cst_5, val_main_v50, val_main_v49, val_main_cst_4,
    val_main_v48, val_main_cst_3, val_main_v45, val_main_v44, val_main_v43]
  rw [half_lit, n_lit, mul_comm]
  simp only [div_n]

/-- The derivative of the residual stream, -/
theorem out12 (c : Dev nD) (hf : Finite m c) (t : Fin cfg0.N) (p : Fin 256) (l : Fin 1024) (R : Fin 4096)
    (hR : (R : ℕ) = t.val * 256 + p) :
    (outsAt0 m c t.val t.isLt).2.2.2.1 (ix2 p l) = val_main_v58 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (ix2 R l) := by
  rw [dy_eq]
  rcases Classical.em (t.val % 16 = 0) with h | h
  · obtain ⟨tt, htt, e, -, -⟩ := tileA m c hf t h
    exact (congrFun e _).trans (pay3_at m c t tt htt p l _ hR)
  · obtain ⟨tt, htt, e, -, -⟩ := tileB m c hf t h
    exact (congrFun e _).trans (pay3_at m c t tt htt p l _ hR)

theorem final12 (c : Dev nD) (hf : Finite m c) : (dats m 0 c).arrAt 12 (cfgs 0).N = val_main_v58 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) := by
  refine (dats m 0 c).arrAt_eq_of_covers 12 _ (by decide +kernel) fun t _ y => ?_
  blk_simp
  rw [after0_12]
  refine (congrArg _ (eq_ix2 y)).trans ((out12 m c hf t (y 0) (y 1) (row t (y 0)) rfl).trans
    (congrArg (val_main_v58 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6))) ?_))
  blk_ext [idx t, row]

/-- the same laid, -/
theorem out13 (c : Dev nD) (hf : Finite m c) (t : Fin cfg0.N) (p : Fin 256) (l : Fin 1024) (R : Fin 4096)
    (hR : (R : ℕ) = t.val * 256 + p) :
    (outsAt0 m c t.val t.isLt).2.2.2.2.1 (ix2 p l) = val_main_v72 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (ix2 R l) := by
  rw [lay72 m c R (at_ t p) l (time t p _ hR), dy_eq]
  rcases Classical.em (t.val % 16 = 0) with h | h
  · obtain ⟨tt, htt, -, e, -⟩ := tileA m c hf t h
    exact (congrFun e _).trans (pay4_at m c t tt htt p l _ rfl)
  · obtain ⟨tt, htt, -, e, -⟩ := tileB m c hf t h
    exact (congrFun e _).trans (pay4_at m c t tt htt p l _ rfl)

theorem final13 (c : Dev nD) (hf : Finite m c) : (dats m 0 c).arrAt 13 (cfgs 0).N = val_main_v72 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) := by
  refine (dats m 0 c).arrAt_eq_of_covers 13 _ (by decide +kernel) fun t _ y => ?_
  blk_simp
  rw [after0_13]
  refine (congrArg _ (eq_ix2 y)).trans ((out13 m c hf t (y 0) (y 1) (row t (y 0)) rfl).trans
    (congrArg (val_main_v72 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6))) ?_))
  blk_ext [idx t, row]

/-- The first tile finds the loss zero. -/
theorem fill6 (y : S8x128.Idx) : k0_pay6 (F := Ideal) y = 0 := by pointwise [k0_pay6]

/-- and the loss. -/
theorem final14 (c : Dev nD) (hf : Finite m c) : (dats m 0 c).arrAt 14 (cfgs 0).N = val_main_v73 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) := by
  refine (dats m 0 c).arrAt_eq_of_covers 14 _ (by decide +kernel) fun t hfl y => ?_
  blk_simp
  rw [after0_14, Pipeline.eq_sum_fin_of_reset_step_apply_of_flush (fun n h => (outsAt0 m c n h).2.2.2.2.2.1) 16 (fun _ => 0)
    (fun p _ => ∑ k : Fin 256, part m c (row p k))
    (fun t h j => by
      obtain ⟨tt, htt, -, -, e⟩ := tileA m c hf t h
      exact (congrFun e j).trans ((pay2_at m c t tt htt _ j).trans (by rw [fill6])))
    (fun t h j => by
      obtain ⟨tt, htt, -, -, e⟩ := tileB m c hf t h
      exact (congrFun e j).trans (pay2_at m c t tt htt _ j))
    t ((flush0_14 t).mp hfl) _, zero_add, loss_eq]
  refine Fin.sum_mul_add_congr fun s k hl => ?_
  have ht := lt_of_lt_of_eq t.isLt N_0
  exact congrArg (part m c) (Fin.ext (show (16 * (t.val / 16) + s.val) * 256 + k.val = s.val * 256 + k.val by omega))

instance preFacts : Cert.Pre_fff_finite.Facts where
  bcast_S_S1024 := by decide
  bcast_S_S1024x5632 := by decide
  bcast_S_S3x5632 := by decide
  bcast_S_S5632 := by decide
  bcast_S_S2816x1024 := by decide

/-- The claim's test says so. -/
theorem finite_of_pre (h : Pre_Kernel8Ideal_fff_finite m) (c : Dev nD) : Finite m c where
  g k := Laid.real_of_bit (congrFun (h c).1 k)
  wu k := Laid.real_of_bit (congrFun (h c).2.1 k)
  k k := Laid.real_of_bit (congrFun (h c).2.2.1 k)
  b k := Laid.real_of_bit (congrFun (h c).2.2.2.1 k)
  wd k := Laid.real_of_bit (congrFun (h c).2.2.2.2 k)

end Cert.Kernel8Ideal.FfnFwd

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Mix
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.DwUp
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.DwDown
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.InFwd
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.MixOut
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.InBwd
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.FfnBwdB
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Reference8Ideal.Read
public import proofs.«01_k».proof.Proof.FfnFwd
public import Idealize.ShloMosaic.Adequacy
public import Idealize.ShloMosaic.Init

@[expose] public section

noncomputable section

namespace Cert.Proof

open Idealize.ShloMosaic Idealize.SL.Sem

theorem frame : Cert.quiescent_Kernel := fun m ρ _ => Cert.Kernel.Gen.frame m ρ

theorem frameIdeal : Cert.quiescent_KernelIdeal := fun m ρ _ => Cert.KernelIdeal.Gen.frame m ρ

theorem frameReference : Cert.quiescent_ReferenceIdeal := fun m g _ =>
  (θ_run (Cert.ReferenceIdeal.defs (F := Ideal)) _ _).mono
    (fun r h => ⟨fun c => (h c).2.2.2.2.2.2, sem_eq_zero_of_no_sems (by decide) r.2⟩)
    (Cert.ReferenceIdeal.Value.run (F := Ideal) m g)

set_option maxHeartbeats 3000000 in
theorem algebraic : Cert.algebraic_KernelIdeal_ReferenceIdeal := by
  pair_intro
  · run_from Cert.KernelIdeal.Gen.run_main m g
  · run_from Cert.ReferenceIdeal.Value.run m' g'
    · exact (Cert.KernelIdeal.Mix.final7 m c).symm
    · exact (Cert.KernelIdeal.Mix.final8 m c).symm
    · exact (Cert.KernelIdeal.Mix.final9 m c).symm
    · exact (Cert.KernelIdeal.Mix.final10 m c).symm
    · exact (Cert.KernelIdeal.Mix.final11 m c).symm
    · exact (Cert.KernelIdeal.Mix.final12 m c).symm

theorem frame2 : Cert.quiescent_Kernel2 := fun m ρ _ => Cert.Kernel2.Gen.frame m ρ

theorem frameIdeal2 : Cert.quiescent_Kernel2Ideal := fun m ρ _ => Cert.Kernel2Ideal.Gen.frame m ρ

theorem frameReference2 : Cert.quiescent_Reference2Ideal := fun m g _ =>
  (θ_run (Cert.Reference2Ideal.defs (F := Ideal)) _ _).mono
    (fun r h => ⟨fun c => (h c).2, sem_eq_zero_of_no_sems (by decide) r.2⟩)
    (Cert.Reference2Ideal.Value.run (F := Ideal) m g)

theorem algebraic2 : Cert.algebraic_Kernel2Ideal_Reference2Ideal := by
  pair_intro
  · run_from Cert.Kernel2Ideal.Gen.run_main m g
  · run_from Cert.Reference2Ideal.Value.run m' g'
    · exact (Cert.Kernel2Ideal.DwUp.final m c).symm

theorem frame3 : Cert.quiescent_Kernel3 := fun m ρ _ => Cert.Kernel3.Gen.frame m ρ

theorem frameIdeal3 : Cert.quiescent_Kernel3Ideal := fun m ρ _ => Cert.Kernel3Ideal.Gen.frame m ρ

theorem frameReference3 : Cert.quiescent_Reference3Ideal := fun m g _ =>
  (θ_run (Cert.Reference3Ideal.defs (F := Ideal)) _ _).mono
    (fun r h => ⟨fun c => (h c).2, sem_eq_zero_of_no_sems (by decide) r.2⟩)
    (Cert.Reference3Ideal.Value.run (F := Ideal) m g)

theorem algebraic3 : Cert.algebraic_Kernel3Ideal_Reference3Ideal := by
  pair_intro
  · run_from Cert.Kernel3Ideal.Gen.run_main m g
  · run_from Cert.Reference3Ideal.Value.run m' g'
    · exact (Cert.Kernel3Ideal.DwDown.final m c).symm

theorem frame4 : Cert.quiescent_Kernel4 := fun m ρ _ => Cert.Kernel4.Gen.frame m ρ

theorem frameIdeal4 : Cert.quiescent_Kernel4Ideal := fun m ρ _ => Cert.Kernel4Ideal.Gen.frame m ρ

theorem frameReference4 : Cert.quiescent_Reference4Ideal := fun m g _ =>
  (θ_run (Cert.Reference4Ideal.defs (F := Ideal)) _ _).mono
    (fun r h => ⟨fun c => (h c).2.2.2.2.2, sem_eq_zero_of_no_sems (by decide) r.2⟩)
    (Cert.Reference4Ideal.Value.run (F := Ideal) m g)

theorem algebraic4 : Cert.algebraic_Kernel4Ideal_Reference4Ideal := by
  pair_intro
  · run_from Cert.Kernel4Ideal.Gen.run_main m g
  · run_from Cert.Reference4Ideal.Value.run m' g'
    · exact (Cert.Kernel4Ideal.InFwd.final4 m c).symm
    · exact (Cert.Kernel4Ideal.InFwd.final5 m c).symm
    · exact (Cert.Kernel4Ideal.InFwd.final6 m c).symm
    · exact (Cert.Kernel4Ideal.InFwd.final7 m c).symm
    · exact (Cert.Kernel4Ideal.InFwd.final8 m c).symm

theorem frame5 : Cert.quiescent_Kernel5 := fun m ρ _ => Cert.Kernel5.Gen.frame m ρ

theorem frameIdeal5 : Cert.quiescent_Kernel5Ideal := fun m ρ _ => Cert.Kernel5Ideal.Gen.frame m ρ

theorem frameReference5 : Cert.quiescent_Reference5Ideal := fun m g _ =>
  (θ_run (Cert.Reference5Ideal.defs (F := Ideal)) _ _).mono
    (fun r h => ⟨fun c => (h c).2.2, sem_eq_zero_of_no_sems (by decide) r.2⟩)
    (Cert.Reference5Ideal.Value.run (F := Ideal) m g)

theorem algebraic5 : Cert.algebraic_Kernel5Ideal_Reference5Ideal := by
  pair_intro
  · run_from Cert.Kernel5Ideal.Gen.run_main m g
  · run_from Cert.Reference5Ideal.Value.run m' g'
    · exact (Cert.Kernel5Ideal.MixOut.final5 m c).symm
    · exact (Cert.Kernel5Ideal.MixOut.final6 m c).symm

theorem frame6 : Cert.quiescent_Kernel6 := fun m ρ _ => Cert.Kernel6.Gen.frame m ρ

theorem frameIdeal6 : Cert.quiescent_Kernel6Ideal := fun m ρ _ => Cert.Kernel6Ideal.Gen.frame m ρ

theorem frameReference6 : Cert.quiescent_Reference6Ideal := fun m g _ =>
  (θ_run (Cert.Reference6Ideal.defs (F := Ideal)) _ _).mono
    (fun r h => ⟨fun c => (h c).2.2, sem_eq_zero_of_no_sems (by decide) r.2⟩)
    (Cert.Reference6Ideal.Value.run (F := Ideal) m g)

theorem algebraic6 : Cert.algebraic_Kernel6Ideal_Reference6Ideal := by
  pair_intro
  · run_from Cert.Kernel6Ideal.Gen.run_main m g
  · run_from Cert.Reference6Ideal.Value.run m' g'
    · rw [Cert.Reference6Ideal.Read.val_main_v38_eq, (hagree c).1, (hagree c).2.1, (hagree c).2.2.1,
        (hagree c).2.2.2.1, (hagree c).2.2.2.2]
      exact (Cert.Kernel6Ideal.InBwd.final8 m c).symm
    · exact (Cert.Kernel6Ideal.InBwd.final9 m c).symm

theorem frame7 : Cert.quiescent_Kernel7 := fun m ρ _ => Cert.Kernel7.Gen.frame m ρ

theorem frameIdeal7 : Cert.quiescent_Kernel7Ideal := fun m ρ _ => Cert.Kernel7Ideal.Gen.frame m ρ

theorem framePre7 : Cert.quiescent_Kernel7Ideal_pre_ffb_finite := fun m ρ _ => Cert.Kernel7Ideal.Gen.frame m ρ

theorem frameReference7 : Cert.quiescent_Reference7Ideal := fun m g _ =>
  (θ_run (Cert.Reference7Ideal.defs (F := Ideal)) _ _).mono
    (fun r h => ⟨fun c => (h c).2.2.2, sem_eq_zero_of_no_sems (by decide) r.2⟩)
    (Cert.Reference7Ideal.Value.run (F := Ideal) m g)

theorem frameReferencePre7 : Cert.quiescent_Reference7Ideal_pre_ffb_finite := fun m g _ =>
  (θ_run (Cert.Reference7Ideal.defs (F := Ideal)) _ _).mono
    (fun r h => ⟨fun c => (h c).2.2.2, sem_eq_zero_of_no_sems (by decide) r.2⟩)
    (Cert.Reference7Ideal.Value.run (F := Ideal) m g)

set_option maxHeartbeats 3000000 in
theorem algebraic7 : Cert.algebraic_Kernel7Ideal_Reference7Ideal_pre_ffb_finite := by
  pair_intro
  · run_from Cert.Kernel7Ideal.Gen.run_main m g
    all_goals
      simp only [Cert.Kernel7Ideal.Gen.hostOps0, Cert.Kernel7Ideal.Gen.hostOps0_1, Cert.Kernel7Ideal.Gen.hostOps0_2,
        Cert.Kernel7Ideal.Gen.hostOps0_3, Cert.Kernel7Ideal.Gen.hostOps0_4, List.flatten_cons, List.flatten_nil,
        List.cons_append, List.nil_append, List.append_nil]
      entry_read
      rfl
  · run_from Cert.Reference7Ideal.Value.run m' g'
    · rw [Cert.Reference7Ideal.Read.val_main_v38_eq, (hagree c).1, (hagree c).2.1, (hagree c).2.2.1, (hagree c).2.2.2.1, (hagree c).2.2.2.2]
      exact (Cert.Kernel7Ideal.FfnBwdB.final6 m c (Cert.Kernel7Ideal.FfnBwdB.finite_of_pre m hpre c)).symm
    · rw [Cert.Reference7Ideal.Read.val_main_v39_eq, (hagree c).1, (hagree c).2.1, (hagree c).2.2.1, (hagree c).2.2.2.1, (hagree c).2.2.2.2]
      exact (Cert.Kernel7Ideal.FfnBwdB.final7 m c (Cert.Kernel7Ideal.FfnBwdB.finite_of_pre m hpre c)).symm
    · exact (Cert.Kernel7Ideal.FfnBwdB.final8 m c (Cert.Kernel7Ideal.FfnBwdB.finite_of_pre m hpre c)).symm

theorem frame8 : Cert.quiescent_Kernel8 := fun m ρ _ => Cert.Kernel8.Gen.frame m ρ

theorem frameIdeal8 : Cert.quiescent_Kernel8Ideal := fun m ρ _ => Cert.Kernel8Ideal.Gen.frame m ρ

theorem framePre8 : Cert.quiescent_Kernel8Ideal_pre_fff_finite := fun m ρ _ => Cert.Kernel8Ideal.Gen.frame m ρ

theorem frameReference8 : Cert.quiescent_Reference8Ideal := fun m g _ =>
  (θ_run (Cert.Reference8Ideal.defs (F := Ideal)) _ _).mono
    (fun r h => ⟨fun c => (h c).2.2.2.2.2.2, sem_eq_zero_of_no_sems (by decide) r.2⟩)
    (Cert.Reference8Ideal.Value.run (F := Ideal) m g)

theorem frameReferencePre8 : Cert.quiescent_Reference8Ideal_pre_fff_finite := fun m g _ =>
  (θ_run (Cert.Reference8Ideal.defs (F := Ideal)) _ _).mono
    (fun r h => ⟨fun c => (h c).2.2.2.2.2.2, sem_eq_zero_of_no_sems (by decide) r.2⟩)
    (Cert.Reference8Ideal.Value.run (F := Ideal) m g)

set_option maxHeartbeats 3000000 in
set_option maxRecDepth 16384 in
theorem algebraic8 : Cert.algebraic_Kernel8Ideal_Reference8Ideal_pre_fff_finite := by
  pair_intro
  · run_from Cert.Kernel8Ideal.Gen.run_main m g
    all_goals
      simp only [Cert.Kernel8Ideal.Gen.hostOps0, Cert.Kernel8Ideal.Gen.hostOps0_1, Cert.Kernel8Ideal.Gen.hostOps0_2,
        Cert.Kernel8Ideal.Gen.hostOps0_3, Cert.Kernel8Ideal.Gen.hostOps0_4, List.flatten_cons, List.flatten_nil,
        List.cons_append, List.nil_append, List.append_nil]
      entry_read
      rfl
  · run_from Cert.Reference8Ideal.Value.run m' g'
    · exact (Cert.Kernel8Ideal.FfnFwd.final9 m c).symm
    · exact (Cert.Kernel8Ideal.FfnFwd.final10 m c).symm
    · rw [Cert.Reference8Ideal.Read.val_main_v68_eq, (hagree c).1, (hagree c).2.1, (hagree c).2.2.1, (hagree c).2.2.2.1, (hagree c).2.2.2.2.1]
      exact (Cert.Kernel8Ideal.FfnFwd.final11 m c).symm
    · rw [Cert.Reference8Ideal.Read.val_main_v58_eq, (hagree c).1, (hagree c).2.1, (hagree c).2.2.1, (hagree c).2.2.2.1, (hagree c).2.2.2.2.1, (hagree c).2.2.2.2.2.1, (hagree c).2.2.2.2.2.2]
      exact (Cert.Kernel8Ideal.FfnFwd.final12 m c (Cert.Kernel8Ideal.FfnFwd.finite_of_pre m hpre c)).symm
    · rw [Cert.Reference8Ideal.Read.val_main_v72_eq, (hagree c).1, (hagree c).2.1, (hagree c).2.2.1, (hagree c).2.2.2.1, (hagree c).2.2.2.2.1, (hagree c).2.2.2.2.2.1, (hagree c).2.2.2.2.2.2]
      exact (Cert.Kernel8Ideal.FfnFwd.final13 m c (Cert.Kernel8Ideal.FfnFwd.finite_of_pre m hpre c)).symm
    · rw [Cert.Reference8Ideal.Read.val_main_v73_eq, (hagree c).1, (hagree c).2.1, (hagree c).2.2.1, (hagree c).2.2.2.1, (hagree c).2.2.2.2.1, (hagree c).2.2.2.2.2.1, (hagree c).2.2.2.2.2.2]
      exact (Cert.Kernel8Ideal.FfnFwd.final14 m c (Cert.Kernel8Ideal.FfnFwd.finite_of_pre m hpre c)).symm

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel7Ideal.FfnBwdB.preFacts, Cert.Kernel8Ideal.FfnFwd.preFacts,
  frame, frameIdeal, frameReference, frame2, frameIdeal2, frameReference2, frame3, frameIdeal3, frameReference3, frame4, frameIdeal4, frameReference4, frame5, frameIdeal5, frameReference5, frame6, frameIdeal6, frameReference6, frame7, frameIdeal7, framePre7, frameReference7, frameReferencePre7, frame8, frameIdeal8, framePre8, frameReference8, frameReferencePre8, trivial, algebraic, trivial, algebraic2, trivial, algebraic3, trivial, algebraic4, trivial, algebraic5, trivial, algebraic6, trivial, algebraic7, trivial, algebraic8⟩

end Cert.Proof

end
